-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_distinct [hPre_scores_distinct : Cert.Pre_scores_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_scores_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_scores_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_scores_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_distinct [hPre_scores_distinct : Cert.Pre_scores_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_scores_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_scores_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_distinct [hKernelIdeal : Cert.KernelIdeal.Facts] [hPre_scores_distinct : Cert.Pre_scores_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_distinct [hReferenceIdeal : Cert.ReferenceIdeal.Facts] [hPre_scores_distinct : Cert.Pre_scores_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_scores_distinct [hKernelIdeal : Cert.KernelIdeal.Facts] [hReferenceIdeal : Cert.ReferenceIdeal.Facts] [hPre_scores_distinct : Cert.Pre_scores_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_scores_distinct : Cert.Pre_scores_distinct.Facts),
    quiescent_Kernel (hKernel := hKernel)
    ∧ quiescent_KernelIdeal (hKernelIdeal := hKernelIdeal)
    ∧ quiescent_KernelIdeal_pre_scores_distinct (hKernelIdeal := hKernelIdeal) (hPre_scores_distinct := hPre_scores_distinct)
    ∧ quiescent_ReferenceIdeal (hReferenceIdeal := hReferenceIdeal)
    ∧ quiescent_ReferenceIdeal_pre_scores_distinct (hReferenceIdeal := hReferenceIdeal) (hPre_scores_distinct := hPre_scores_distinct)
    ∧ preserves_Kernel_KernelIdeal
    ∧ algebraic_KernelIdeal_ReferenceIdeal_pre_scores_distinct (hKernelIdeal := hKernelIdeal) (hReferenceIdeal := hReferenceIdeal) (hPre_scores_distinct := hPre_scores_distinct)
-- ==== Pre_scores_distinct.lean ====
abbrev S1x2048x1024 : Shape := ⟨3, ![1, 2048, 1024]⟩
abbrev S1x8192x2x64 : Shape := ⟨4, ![1, 8192, 2, 64]⟩
abbrev S1024x1024 : Shape := ⟨2, ![1024, 1024]⟩
abbrev S1024x128 : Shape := ⟨2, ![1024, 128]⟩
abbrev S16x1x1 : Shape := ⟨3, ![16, 1, 1]⟩
abbrev S1 : Shape := ⟨1, ![1]⟩
abbrev S1x2048x16x64 : Shape := ⟨4, ![1, 2048, 16, 64]⟩
abbrev S1x16x2048x64 : Shape := ⟨4, ![1, 16, 2048, 64]⟩
abbrev S_ : Shape := ⟨0, ![]⟩
abbrev S1x16x2048 : Shape := ⟨3, ![1, 16, 2048]⟩
abbrev S1x16x2048x1 : Shape := ⟨4, ![1, 16, 2048, 1]⟩
abbrev S1x8192x1x64 : Shape := ⟨4, ![1, 8192, 1, 64]⟩
abbrev S1x8192x64 : Shape := ⟨3, ![1, 8192, 64]⟩
abbrev S1x16x2048x8192 : Shape := ⟨4, ![1, 16, 2048, 8192]⟩
abbrev S1x16x2048x33 : Shape := ⟨4, ![1, 16, 2048, 33]⟩
abbrev S1x16x2048x32 : Shape := ⟨4, ![1, 16, 2048, 32]⟩

class Facts : Prop where
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  reducesTo_S1x16x2048x64_S1x16x2048_d3 : S1x16x2048x64.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S_S1x16x2048x1 : S_.BroadcastsInDim S1x16x2048x1 (![] : Fin 0 → Fin S1x16x2048x1.rank)
  bcast_S1x16x2048x1_S1x16x2048x64_0_1_2_3 : S1x16x2048x1.BroadcastsInDim S1x16x2048x64 (![0, 1, 2, 3] : Fin 4 → Fin S1x16x2048x64.rank)
  slices_S1x8192x2x64_S1x8192x1x64_0_0_0_0 : S1x8192x2x64.Slices ![0, 0, 0, 0] S1x8192x1x64
  shapeCasts_S1x8192x1x64_S1x8192x64 : S1x8192x1x64.ShapeCasts S1x8192x64
  sliceFits_S1x16x2048x8192_S1x16x2048x33 : S1x16x2048x8192.Slices (fun _ => 0) S1x16x2048x33
  bcast_S_S16x1x1 : S_.BroadcastsInDim S16x1x1 (![] : Fin 0 → Fin S16x1x1.rank)
  bcast_S_S1x16x2048x33 : S_.BroadcastsInDim S1x16x2048x33 (![] : Fin 0 → Fin S1x16x2048x33.rank)
  slices_S1x16x2048x33_S1x16x2048x32_0_0_0_0 : S1x16x2048x33.Slices ![0, 0, 0, 0] S1x16x2048x32
  slices_S1x16x2048x33_S1x16x2048x32_0_0_0_1 : S1x16x2048x33.Slices ![0, 0, 0, 1] S1x16x2048x32
  dot_S1x2048x1024_S1024x1024_S1x2048x1024_2_0_01_1_n_n_wf : DotDims.WF S1x2048x1024 S1024x1024 S1x2048x1024 [2] [0] [0, 1] [1] [] []
  dot_S1x16x2048x64_S1x8192x64_S1x16x2048x8192_3_2_12_1_0_0_wf : DotDims.WF S1x16x2048x64 S1x8192x64 S1x16x2048x8192 [3] [2] [1, 2] [1] [0] [0]

variable [Facts]

def dot_S1x2048x1024_S1024x1024_S1x2048x1024_2_0_01_1_n_n : DotDims S1x2048x1024 S1024x1024 S1x2048x1024 where
  lhsContracting := [2]
  rhsContracting := [0]
  lhsNonContracting := [0, 1]
  rhsNonContracting := [1]
  lhsBatch := []
  rhsBatch := []
  wf := dot_S1x2048x1024_S1024x1024_S1x2048x1024_2_0_01_1_n_n_wf
def dot_S1x16x2048x64_S1x8192x64_S1x16x2048x8192_3_2_12_1_0_0 : DotDims S1x16x2048x64 S1x8192x64 S1x16x2048x8192 where
  lhsContracting := [3]
  rhsContracting := [2]
  lhsNonContracting := [1, 2]
  rhsNonContracting := [1]
  lhsBatch := [0]
  rhsBatch := [0]
  wf := dot_S1x16x2048x64_S1x8192x64_S1x16x2048x8192_3_2_12_1_0_0_wf
def fn_norm {F : FTy → Type} [FloatOps F] (arg0 : FVec F S1x16x2048x64 .f32) : FVec F S1x16x2048x1 .f32 :=
  let v0 : FVec F S1x16x2048x64 .f32 := mulf arg0 arg0
  let cst : FVec F S_ .f32 := constant S_ .f32 0x00000000#32
  let v1 : FVec F S1x16x2048 .f32 := (fun x v => Host.reduceAdd x v reducesTo_S1x16x2048x64_S1x16x2048_d3 h_S_) v0 cst
  let v2 : FVec F S1x16x2048x1 .f32 := broadcastInDim S1x16x2048x1 ![0, 1, 2] bcast_S1x16x2048_S1x16x2048x1_0_1_2 v1
  let v3 : FVec F S1x16x2048x1 .f32 := Host.sqrt v2
  v3

def fn_clip {F : FTy → Type} [FloatOps F] (arg0 : FVec F S1x16x2048x1 .f32) (arg1 : FVec F S_ .f32) : FVec F S1x16x2048x1 .f32 :=
  let v0 : FVec F S_ .f32 := id arg1
  let v1 : FVec F S1x16x2048x1 .f32 := broadcastInDim S1x16x2048x1 ![] bcast_S_S1x16x2048x1 v0
  let v2 : FVec F S1x16x2048x1 .f32 := maximumf v1 arg0
  v2

def fn {F : FTy → Type} [FloatOps F] (main_arg0 : FVec F S1x2048x1024 .f32) (main_arg1 : FVec F S1x8192x2x64 .f32) (main_arg2 : FVec F S1024x1024 .f32) (main_arg3 : FVec F S1024x128 .f32) (main_arg4 : FVec F S1024x1024 .f32) (main_arg5 : FVec F S16x1x1 .f32) (main_arg6 : FVec F S1 .f32) : IVec S16x1x1 1 × IVec S1x16x2048x33 1 × IVec S1x16x2048x32 1 :=
  let main_v0 : FVec F S1x2048x1024 .f32 := (fun l r => Host.dotGeneral dot_S1x2048x1024_S1024x1024_S1x2048x1024_2_0_01_1_n_n none l r) main_arg0 main_arg2
  let main_v1 : FVec F S1x2048x16x64 .f32 := shapeCast S1x2048x16x64 main_v0 shapeCasts_S1x2048x1024_S1x2048x16x64
  let main_v2 : FVec F S1x16x2048x64 .f32 := (transpose S1x16x2048x64 [0, 2, 1, 3] · transposes_S1x2048x16x64_S1x16x2048x64_0_2_1_3) main_v1
  let main_v3 : FVec F S1x16x2048x1 .f32 := fn_norm (F := F) main_v2
  let main_cst : FVec F S_ .f32 := constant S_ .f32 0x2B8CBCCC#32
  let main_v4 : FVec F S1x16x2048x1 .f32 := fn_clip (F := F) main_v3 main_cst
  let main_v5 : FVec F S1x16x2048x64 .f32 := broadcastInDim S1x16x2048x64 ![0, 1, 2, 3] bcast_S1x16x2048x1_S1x16x2048x64_0_1_2_3 main_v4
  let main_v6 : FVec F S1x16x2048x64 .f32 := Host.divf main_v2 main_v5
  let main_v7 : FVec F S1x8192x1x64 .f32 := (extractStridedSlice S1x8192x1x64 ![0, 0, 0, 0] · slices_S1x8192x2x64_S1x8192x1x64_0_0_0_0) main_arg1
  let main_v8 : FVec F S1x8192x64 .f32 := shapeCast S1x8192x64 main_v7 shapeCasts_S1x8192x1x64_S1x8192x64
  let main_v9 : FVec F S1x16x2048x8192 .f32 := (fun l r => Host.dotGeneral dot_S1x16x2048x64_S1x8192x64_S1x16x2048x8192_3_2_12_1_0_0 none l r) main_v6 main_v8
  let main_values : FVec F S1x16x2048x33 .f32 := (fun x => (Host.topK S1x16x2048x33 3 (FloatOps.cmpfTotal .gt) x sliceFits_S1x16x2048x8192_S1x16x2048x33).1) main_v9
  let main_indices : IVec S1x16x2048x33 32 := (fun x => (Host.topK S1x16x2048x33 3 (FloatOps.cmpfTotal .gt) x sliceFits_S1x16x2048x8192_S1x16x2048x33).2) main_v9
  let main_v10 : FVec F S16x1x1 .f32 := Host.absf main_arg5
  let main_cst_0 : FVec F S_ .f32 := constant S_ .f32 0x7F800000#32
  let main_v11 : FVec F S16x1x1 .f32 := broadcastInDim S16x1x1 ![] bcast_S_S16x1x1 main_cst_0
  let main_v12 : IVec S16x1x1 1 := cmpf .olt main_v10 main_v11
  let main_cst_1 : FVec F S_ .f32 := constant S_ .f32 0x7F800000#32
  let main_v13 : FVec F S1x16x2048x33 .f32 := broadcastInDim S1x16x2048x33 ![] bcast_S_S1x16x2048x33 main_cst_1
  let main_v14 : IVec S1x16x2048x33 1 := cmpf .olt main_values main_v13
  let main_v15 : FVec F S1x16x2048x32 .f32 := (extractStridedSlice S1x16x2048x32 ![0, 0, 0, 0] · slices_S1x16x2048x33_S1x16x2048x32_0_0_0_0) main_values
  let main_v16 : FVec F S1x16x2048x32 .f32 := (extractStridedSlice S1x16x2048x32 ![0, 0, 0, 1] · slices_S1x16x2048x33_S1x16x2048x32_0_0_0_1) main_values
  let main_v17 : IVec S1x16x2048x32 1 := cmpf .ogt main_v15 main_v16
  (main_v12, main_v14, main_v17)
-- ==== Kernel.lean ====
abbrev S1x2048x1024 : Shape := ⟨3, ![1, 2048, 1024]⟩
abbrev S1x8192x2x64 : Shape := ⟨4, ![1, 8192, 2, 64]⟩
abbrev S1024x1024 : Shape := ⟨2, ![1024, 1024]⟩
abbrev S1024x128 : Shape := ⟨2, ![1024, 128]⟩
abbrev S16x1x1 : Shape := ⟨3, ![16, 1, 1]⟩
abbrev S1 : Shape := ⟨1, ![1]⟩
abbrev S2048x1024 : Shape := ⟨2, ![2048, 1024]⟩
abbrev S1x8192x1x64 : Shape := ⟨4, ![1, 8192, 1, 64]⟩
abbrev S1x8192x64 : Shape := ⟨3, ![1, 8192, 64]⟩
abbrev S8192x64 : Shape := ⟨2, ![8192, 64]⟩
abbrev S_ : Shape := ⟨0, ![]⟩
abbrev S8192x1 : Shape := ⟨2, ![8192, 1]⟩
abbrev S8192x65 : Shape := ⟨2, ![8192, 65]⟩
abbrev S16x2048x64 : Shape := ⟨3, ![16, 2048, 64]⟩
abbrev S2x2048x64 : Shape := ⟨3, ![2, 2048, 64]⟩
abbrev S2048x128 : Shape := ⟨2, ![2048, 128]⟩
abbrev S2048x64 : Shape := ⟨2, ![2048, 64]⟩
abbrev S2048 : Shape := ⟨1, ![2048]⟩
abbrev S2048x1 : Shape := ⟨2, ![2048, 1]⟩
abbrev S1x2048x64 : Shape := ⟨3, ![1, 2048, 64]⟩
abbrev S2048x65 : Shape := ⟨2, ![2048, 65]⟩
abbrev S1x1x1 : Shape := ⟨3, ![1, 1, 1]⟩
abbrev S1x256x64 : Shape := ⟨3, ![1, 256, 64]⟩
abbrev S256x64 : Shape := ⟨2, ![256, 64]⟩
abbrev S256x8192 : Shape := ⟨2, ![256, 8192]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S256x65 : Shape := ⟨2, ![256, 65]⟩
abbrev S256x2048 : Shape := ⟨2, ![256, 2048]⟩
abbrev S1x1 : Shape := ⟨2, ![1, 1]⟩
abbrev S64x1024 : Shape := ⟨2, ![64, 1024]⟩

abbrev nBuf : Space → Nat
  | .hbm => 29
  | .vmem => 26
  | .smem => 0
  | _ => 0

abbrev bufTy : (tb : Table) → Fin (tcTables nBuf tb) → BufTy
  | .hbm, ⟨0, _⟩ => ⟨S1x2048x1024, .f32⟩
  | .hbm, ⟨1, _⟩ => ⟨S1x8192x2x64, .f32⟩
  | .hbm, ⟨2, _⟩ => ⟨S1024x1024, .f32⟩
  | .hbm, ⟨3, _⟩ => ⟨S1024x128, .f32⟩
  | .hbm, ⟨4, _⟩ => ⟨S1024x1024, .f32⟩
  | .hbm, ⟨5, _⟩ => ⟨S16x1x1, .f32⟩
  | .hbm, ⟨6, _⟩ => ⟨S1, .f32⟩
  | .hbm, ⟨7, _⟩ => ⟨S2048x1024, .f32⟩
  | .hbm, ⟨8, _⟩ => ⟨S1x8192x1x64, .f32⟩
  | .hbm, ⟨9, _⟩ => ⟨S1x8192x64, .f32⟩
  | .hbm, ⟨10, _⟩ => ⟨S8192x64, .f32⟩
  | .hbm, ⟨11, _⟩ => ⟨S1x8192x1x64, .f32⟩
  | .hbm, ⟨12, _⟩ => ⟨S1x8192x64, .f32⟩
  | .hbm, ⟨13, _⟩ => ⟨S8192x64, .f32⟩
  | .hbm, ⟨14, _⟩ => ⟨S_, .f32⟩
  | .hbm, ⟨15, _⟩ => ⟨S8192x1, .f32⟩
  | .hbm, ⟨16, _⟩ => ⟨S8192x65, .f32⟩
  | .hbm, ⟨17, _⟩ => ⟨S8192x65, .bf16⟩
  | .hbm, ⟨18, _⟩ => ⟨S16x2048x64, .f32⟩
  | .hbm, ⟨19, _⟩ => ⟨S2048x64, .f32⟩
  | .hbm, ⟨20, _⟩ => ⟨S2048x64, .f32⟩
  | .hbm, ⟨21, _⟩ => ⟨S_, .f32⟩
  | .hbm, ⟨22, _⟩ => ⟨S2048x1, .f32⟩
  | .hbm, ⟨23, _⟩ => ⟨S2048x65, .f32⟩
  | .hbm, ⟨24, _⟩ => ⟨S2048x65, .bf16⟩
  | .hbm, ⟨25, _⟩ => ⟨S16x2048x64, .f32⟩
  | .hbm, ⟨26, _⟩ => ⟨S1x1, .f32⟩
  | .hbm, ⟨27, _⟩ => ⟨S2048x1024, .f32⟩
  | .hbm, ⟨28, _⟩ => ⟨S1x2048x1024, .f32⟩
  | .local _ .vmem, ⟨0, _⟩ => ⟨S2048x1024, .f32⟩
  | .local _ .vmem, ⟨1, _⟩ => ⟨S1024x128, .f32⟩
  | .local _ .vmem, ⟨2, _⟩ => ⟨S1024x128, .f32⟩
  | .local _ .vmem, ⟨3, _⟩ => ⟨S2x2048x64, .f32⟩
  | .local _ .vmem, ⟨4, _⟩ => ⟨S2x2048x64, .f32⟩
  | .local _ .vmem, ⟨5, _⟩ => ⟨S2048x1024, .f32⟩
  | .local _ .vmem, ⟨6, _⟩ => ⟨S1024x128, .f32⟩
  | .local _ .vmem, ⟨7, _⟩ => ⟨S2048x64, .f32⟩
  | .local _ .vmem, ⟨8, _⟩ => ⟨S2048x64, .f32⟩
  | .local _ .vmem, ⟨9, _⟩ => ⟨S1x1x1, .f32⟩
  | .local _ .vmem, ⟨10, _⟩ => ⟨S1x1x1, .f32⟩
  | .local _ .vmem, ⟨11, _⟩ => ⟨S1x256x64, .f32⟩
  | .local _ .vmem, ⟨12, _⟩ => ⟨S1x256x64, .f32⟩
  | .local _ .vmem, ⟨13, _⟩ => ⟨S2048x64, .f32⟩
  | .local _ .vmem, ⟨14, _⟩ => ⟨S2048x65, .bf16⟩
  | .local _ .vmem, ⟨15, _⟩ => ⟨S8192x64, .f32⟩
  | .local _ .vmem, ⟨16, _⟩ => ⟨S8192x65, .bf16⟩
  | .local _ .vmem, ⟨17, _⟩ => ⟨S1x256x64, .f32⟩
  | .local _ .vmem, ⟨18, _⟩ => ⟨S1x256x64, .f32⟩
  | .local _ .vmem, ⟨19, _⟩ => ⟨S2048x1024, .f32⟩
  | .local _ .vmem, ⟨20, _⟩ => ⟨S1x2048x64, .f32⟩
  | .local _ .vmem, ⟨21, _⟩ => ⟨S1x2048x64, .f32⟩
  | .local _ .vmem, ⟨22, _⟩ => ⟨S64x1024, .f32⟩
  | .local _ .vmem, ⟨23, _⟩ => ⟨S64x1024, .f32⟩
  | .local _ .vmem, ⟨24, _⟩ => ⟨S1x1, .f32⟩
  | .local _ .vmem, ⟨25, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S2048x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![16, 8], ![false, false]⟩

@[reducible] def k2_t1_loop : Scf.Loop 32 :=
  let c0_i32_90 : BitVec 32 := 0#32
  let c32_i32 : BitVec 32 := 32#32
  let v535 : BitVec 32 := Scalar.addi c0_i32_90 c32_i32
  let c1_i32 : BitVec 32 := 1#32
  ⟨c0_i32_90, v535, c1_i32⟩
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x256x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2048x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S2048x65 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S8192x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S8192x65 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x256x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨1, ![16], ![false]⟩

def k3_cond1 (i : grid3.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_4 : BitVec 32 := 0#32
  let v6 : BitVec 1 := Scalar.cmpi .ne v5 c0_i32_4
  v6

def k3_cond2 (i : grid3.Coords) : BitVec 1 :=
  let arg0 : BitVec 32 := BitVec.ofNat 32 (i 0).val
  let c0_i32_5 : BitVec 32 := 0#32
  let v7 : BitVec 1 := Scalar.cmpi .sgt arg0 c0_i32_5
  let v8 : BitVec 32 := Scalar.extui v7
  let c0_i32_6 : BitVec 32 := 0#32
  let v9 : BitVec 1 := Scalar.cmpi .ne v8 c0_i32_6
  v9

def k3_cond3 (i : grid3.Coords) : BitVec 1 :=
  let arg0 : BitVec 32 := BitVec.ofNat 32 (i 0).val
  let c15_i32 : BitVec 32 := 15#32
  let v10 : BitVec 1 := Scalar.cmpi .eq arg0 c15_i32
  let v11 : BitVec 32 := Scalar.extui v10
  let c0_i32_7 : BitVec 32 := 0#32
  let v12 : BitVec 1 := Scalar.cmpi .ne v11 c0_i32_7
  v12

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2048x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]
-- ==== ReferenceIdeal.lean ====
abbrev S1x2048x1024 : Shape := ⟨3, ![1, 2048, 1024]⟩
abbrev S1x8192x2x64 : Shape := ⟨4, ![1, 8192, 2, 64]⟩
abbrev S1024x1024 : Shape := ⟨2, ![1024, 1024]⟩
abbrev S1024x128 : Shape := ⟨2, ![1024, 128]⟩
abbrev S16x1x1 : Shape := ⟨3, ![16, 1, 1]⟩
abbrev S1 : Shape := ⟨1, ![1]⟩
abbrev S1x2048x16x64 : Shape := ⟨4, ![1, 2048, 16, 64]⟩
abbrev S1x16x2048x64 : Shape := ⟨4, ![1, 16, 2048, 64]⟩
abbrev S1x2048x128 : Shape := ⟨3, ![1, 2048, 128]⟩
abbrev S1x2048x64 : Shape := ⟨3, ![1, 2048, 64]⟩
abbrev S_ : Shape := ⟨0, ![]⟩
abbrev S1x16x2048 : Shape := ⟨3, ![1, 16, 2048]⟩
abbrev S1x16x2048x1 : Shape := ⟨4, ![1, 16, 2048, 1]⟩
abbrev S1x2048 : Shape := ⟨2, ![1, 2048]⟩
abbrev S1x2048x1 : Shape := ⟨3, ![1, 2048, 1]⟩
abbrev S1x16x2048x2048 : Shape := ⟨4, ![1, 16, 2048, 2048]⟩
abbrev S1x16x1x1 : Shape := ⟨4, ![1, 16, 1, 1]⟩
abbrev S2048x2048 : Shape := ⟨2, ![2048, 2048]⟩
abbrev S1x8192x1x64 : Shape := ⟨4, ![1, 8192, 1, 64]⟩
abbrev S1x8192x64 : Shape := ⟨3, ![1, 8192, 64]⟩
abbrev S1x16x2048x8192 : Shape := ⟨4, ![1, 16, 2048, 8192]⟩
abbrev S1x16x2048x32 : Shape := ⟨4, ![1, 16, 2048, 32]⟩
abbrev S1x16x2048x32x1 : Shape := ⟨5, ![1, 16, 2048, 32, 1]⟩
abbrev S1x1x1x8192x64 : Shape := ⟨5, ![1, 1, 1, 8192, 64]⟩
abbrev S16x2048x32x1 : Shape := ⟨4, ![16, 2048, 32, 1]⟩
abbrev S1x1x1x1 : Shape := ⟨4, ![1, 1, 1, 1]⟩
abbrev S16x2048x32 : Shape := ⟨3, ![16, 2048, 32]⟩
abbrev S1x16x2048x32x64 : Shape := ⟨5, ![1, 16, 2048, 32, 64]⟩
abbrev S1x16x2048x2080 : Shape := ⟨4, ![1, 16, 2048, 2080]⟩
abbrev S1x1x1 : Shape := ⟨3, ![1, 1, 1]⟩

abbrev nBuf : Space → Nat
  | .hbm => 146
  | .vmem => 0
  | .smem => 0
  | _ => 0

abbrev hbmTy0_0 (i : Nat) : BufTy := match i % 128 with
  | 0 => ⟨S1x2048x1024, .f32⟩
  | 1 => ⟨S1x8192x2x64, .f32⟩
  | 2 => ⟨S1024x1024, .f32⟩
  | 3 => ⟨S1024x128, .f32⟩
  | 4 => ⟨S1024x1024, .f32⟩
  | 5 => ⟨S16x1x1, .f32⟩
  | 6 => ⟨S1, .f32⟩
  | 7 => ⟨S1x2048x1024, .f32⟩
  | 8 => ⟨S1x2048x16x64, .f32⟩
  | 9 => ⟨S1x16x2048x64, .f32⟩
  | 10 => ⟨S1x2048x128, .f32⟩
  | 11 => ⟨S1x2048x64, .f32⟩
  | 12 => ⟨S1x2048x64, .f32⟩
  | 13 => ⟨S1x16x2048x64, .f32⟩
  | 14 => ⟨S_, .f32⟩
  | 15 => ⟨S1x16x2048, .f32⟩
  | 16 => ⟨S1x16x2048x1, .f32⟩
  | 17 => ⟨S1x16x2048x1, .f32⟩
  | 18 => ⟨S_, .f32⟩
  | 19 => ⟨S_, .f32⟩
  | 20 => ⟨S1x16x2048x1, .f32⟩
  | 21 => ⟨S1x16x2048x1, .f32⟩
  | 22 => ⟨S1x16x2048x64, .f32⟩
  | 23 => ⟨S1x16x2048x64, .f32⟩
  | 24 => ⟨S1x2048x64, .f32⟩
  | 25 => ⟨S_, .f32⟩
  | 26 => ⟨S1x2048, .f32⟩
  | 27 => ⟨S1x2048x1, .f32⟩
  | 28 => ⟨S1x2048x1, .f32⟩
  | 29 => ⟨S_, .f32⟩
  | 30 => ⟨S_, .f32⟩
  | 31 => ⟨S1x2048x1, .f32⟩
  | 32 => ⟨S1x2048x1, .f32⟩
  | 33 => ⟨S1x2048x64, .f32⟩
  | 34 => ⟨S1x2048x64, .f32⟩
  | 35 => ⟨S16x1x1, .f32⟩
  | 36 => ⟨S1x16x2048x2048, .f32⟩
  | 37 => ⟨S1x16x1x1, .f32⟩
  | 38 => ⟨S1x16x2048x2048, .f32⟩
  | 39 => ⟨S1x16x2048x2048, .f32⟩
  | 40 => ⟨S_, .i1⟩
  | 41 => ⟨S2048x2048, .i1⟩
  | 42 => ⟨S2048x2048, .i32⟩
  | 43 => ⟨S_, .i32⟩
  | 44 => ⟨S2048x2048, .i32⟩
  | 45 => ⟨S2048x2048, .i32⟩
  | 46 => ⟨S2048x2048, .i32⟩
  | 47 => ⟨S2048x2048, .i1⟩
  | 48 => ⟨S_, .i1⟩
  | 49 => ⟨S2048x2048, .i1⟩
  | 50 => ⟨S2048x2048, .i1⟩
  | 51 => ⟨S_, .f32⟩
  | 52 => ⟨S_, .f32⟩
  | 53 => ⟨S1x16x2048x2048, .i1⟩
  | 54 => ⟨S1x16x2048x2048, .f32⟩
  | 55 => ⟨S1x16x2048x2048, .f32⟩
  | 56 => ⟨S1x8192x1x64, .f32⟩
  | 57 => ⟨S1x8192x64, .f32⟩
  | 58 => ⟨S1x8192x1x64, .f32⟩
  | 59 => ⟨S1x8192x64, .f32⟩
  | 60 => ⟨S1x16x2048x8192, .f32⟩
  | 61 => ⟨S1x16x2048x32, .f32⟩
  | 62 => ⟨S1x16x2048x32, .i32⟩
  | 63 => ⟨S1x16x2048x32x1, .i32⟩
  | 64 => ⟨S1x1x1x8192x64, .f32⟩
  | 65 => ⟨S_, .i32⟩
  | 66 => ⟨S1x16x2048x32x1, .i32⟩
  | 67 => ⟨S1x16x2048x32x1, .i1⟩
  | 68 => ⟨S_, .i32⟩
  | 69 => ⟨S1x16x2048x32x1, .i32⟩
  | 70 => ⟨S1x16x2048x32x1, .i32⟩
  | 71 => ⟨S1x16x2048x32x1, .i32⟩
  | 72 => ⟨S16x2048x32x1, .i32⟩
  | 73 => ⟨S1x8192x64, .f32⟩
  | 74 => ⟨S1, .i32⟩
  | 75 => ⟨S_, .i32⟩
  | 76 => ⟨S16x2048x32x1, .i32⟩
  | 77 => ⟨S16x2048x32x1, .i1⟩
  | 78 => ⟨S1x1x1x1, .i32⟩
  | 79 => ⟨S16x2048x32x1, .i32⟩
  | 80 => ⟨S16x2048x32x1, .i1⟩
  | 81 => ⟨S16x2048x32x1, .i1⟩
  | 82 => ⟨S_, .i1⟩
  | 83 => ⟨S16x2048x32, .i1⟩
  | 84 => ⟨S1x16x2048x32x64, .f32⟩
  | 85 => ⟨S1x16x2048x32x64, .i1⟩
  | 86 => ⟨S_, .f32⟩
  | 87 => ⟨S1x16x2048x32x64, .f32⟩
  | 88 => ⟨S1x16x2048x32x64, .f32⟩
  | 89 => ⟨S1x1x1x8192x64, .f32⟩
  | 90 => ⟨S_, .i32⟩
  | 91 => ⟨S1x16x2048x32x1, .i32⟩
  | 92 => ⟨S1x16x2048x32x1, .i1⟩
  | 93 => ⟨S_, .i32⟩
  | 94 => ⟨S1x16x2048x32x1, .i32⟩
  | 95 => ⟨S1x16x2048x32x1, .i32⟩
  | 96 => ⟨S1x16x2048x32x1, .i32⟩
  | 97 => ⟨S16x2048x32x1, .i32⟩
  | 98 => ⟨S1x8192x64, .f32⟩
  | 99 => ⟨S1, .i32⟩
  | 100 => ⟨S_, .i32⟩
  | 101 => ⟨S16x2048x32x1, .i32⟩
  | 102 => ⟨S16x2048x32x1, .i1⟩
  | 103 => ⟨S1x1x1x1, .i32⟩
  | 104 => ⟨S16x2048x32x1, .i32⟩
  | 105 => ⟨S16x2048x32x1, .i1⟩
  | 106 => ⟨S16x2048x32x1, .i1⟩
  | 107 => ⟨S_, .i1⟩
  | 108 => ⟨S16x2048x32, .i1⟩
  | 109 => ⟨S1x16x2048x32x64, .f32⟩
  | 110 => ⟨S1x16x2048x32x64, .i1⟩
  | 111 => ⟨S_, .f32⟩
  | 112 => ⟨S1x16x2048x32x64, .f32⟩
  | 113 => ⟨S1x16x2048x32x64, .f32⟩
  | 114 => ⟨S1x16x2048x32, .f32⟩
  | 115 => ⟨S1x16x1x1, .f32⟩
  | 116 => ⟨S1x16x2048x32, .f32⟩
  | 117 => ⟨S1x16x2048x32, .f32⟩
  | 118 => ⟨S1x16x2048x2080, .f32⟩
  | 119 => ⟨S_, .f32⟩
  | 120 => ⟨S1x16x2048, .f32⟩
  | 121 => ⟨S_, .f32⟩
  | 122 => ⟨S1x16x2048, .f32⟩
  | 123 => ⟨S1x16x2048, .f32⟩
  | 124 => ⟨S1x16x2048x1, .f32⟩
  | 125 => ⟨S1x16x2048x2080, .f32⟩
  | 126 => ⟨S1x16x2048x2080, .f32⟩
  | 127 => ⟨S1x16x2048x2080, .f32⟩
  | _ => ⟨S1x2048x1024, .f32⟩

abbrev hbmTy0_1 (i : Nat) : BufTy := match i % 128 with
  | 0 => ⟨S_, .f32⟩
  | 1 => ⟨S1x16x2048, .f32⟩
  | 2 => ⟨S1x16x2048x1, .f32⟩
  | 3 => ⟨S1x16x2048x2080, .f32⟩
  | 4 => ⟨S1x16x2048x2080, .f32⟩
  | 5 => ⟨S1x16x2048x32, .f32⟩
  | 6 => ⟨S1x16x2048x2048, .f32⟩
  | 7 => ⟨S1x16x2048x64, .f32⟩
  | 8 => ⟨S1x16x2048x64, .f32⟩
  | 9 => ⟨S1x16x2048x64, .f32⟩
  | 10 => ⟨S1x2048x16x64, .f32⟩
  | 11 => ⟨S1x2048x1024, .f32⟩
  | 12 => ⟨S1x2048x1024, .f32⟩
  | 13 => ⟨S1, .f32⟩
  | 14 => ⟨S1x1x1, .f32⟩
  | 15 => ⟨S1x2048x1024, .f32⟩
  | 16 => ⟨S1x2048x1024, .f32⟩
  | 17 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_call2_v2 : Ref sig .tc := ⟨.hbm, 27, rfl⟩
abbrev main_v10 : Ref sig .tc := ⟨.hbm, 28, rfl⟩
abbrev main_cst_0 : Ref sig .tc := ⟨.hbm, 29, rfl⟩
abbrev main_call3_v0 : Ref sig .tc := ⟨.hbm, 30, rfl⟩
abbrev main_call3_v1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_call4_v0 : Ref sig .tc := ⟨.hbm, 42, rfl⟩
abbrev main_call4_c : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_c_0 : Ref sig .tc := ⟨.hbm, 48, rfl⟩
abbrev main_call4_v5 : Ref sig .tc := ⟨.hbm, 49, rfl⟩
abbrev main_v20 : Ref sig .tc := ⟨.hbm, 50, rfl⟩
abbrev main_cst_1 : Ref sig .tc := ⟨.hbm, 51, rfl⟩
abbrev main_call5_v0 : Ref sig .tc := ⟨.hbm, 52, rfl⟩
abbrev main_call5_v1 : Ref sig .tc := ⟨.hbm, 53, rfl⟩
abbrev main_call5_v2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_values : Ref sig .tc := ⟨.hbm, 61, rfl⟩
abbrev main_indices : Ref sig .tc := ⟨.hbm, 62, rfl⟩
abbrev main_v27 : Ref sig .tc := ⟨.hbm, 63, rfl⟩
abbrev main_v28 : Ref sig .tc := ⟨.hbm, 64, rfl⟩
abbrev main_call6_c : Ref sig .tc := ⟨.hbm, 65, rfl⟩
abbrev main_call6_v0 : Ref sig .tc := ⟨.hbm, 66, rfl⟩
abbrev main_call6_v1 : Ref sig .tc := ⟨.hbm, 67, rfl⟩
abbrev main_call6_c_0 : Ref sig .tc := ⟨.hbm, 68, rfl⟩
abbrev main_call6_v2 : Ref sig .tc := ⟨.hbm, 69, rfl⟩
abbrev main_call6_v3 : Ref sig .tc := ⟨.hbm, 70, rfl⟩
abbrev main_call6_v4 : Ref sig .tc := ⟨.hbm, 71, rfl⟩
abbrev main_call6_v5 : Ref sig .tc := ⟨.hbm, 72, rfl⟩
abbrev main_call6_v6 : Ref sig .tc := ⟨.hbm, 73, rfl⟩
abbrev main_call6_c_1 : Ref sig .tc := ⟨.hbm, 74, rfl⟩
abbrev main_call6_c_2 : Ref sig .tc := ⟨.hbm, 75, rfl⟩
abbrev main_call6_v7 : Ref sig .tc := ⟨.hbm, 76, rfl⟩
abbrev main_call6_v8 : Ref sig .tc := ⟨.hbm, 77, rfl⟩
abbrev main_call6_v9 : Ref sig .tc := ⟨.hbm, 78, rfl⟩
abbrev main_call6_v10 : Ref sig .tc := ⟨.hbm, 79, rfl⟩
abbrev main_call6_v11 : Ref sig .tc := ⟨.hbm, 80, rfl⟩
abbrev main_call6_v12 : Ref sig .tc := ⟨.hbm, 81, rfl⟩
abbrev main_call6_c_3 : Ref sig .tc := ⟨.hbm, 82, rfl⟩
abbrev main_call6_v13 : Ref sig .tc := ⟨.hbm, 83, rfl⟩
abbrev main_call6_v14 : Ref sig .tc := ⟨.hbm, 84, rfl⟩
abbrev main_call6_v15 : Ref sig .tc := ⟨.hbm, 85, rfl⟩
abbrev main_call6_cst : Ref sig .tc := ⟨.hbm, 86, rfl⟩
abbrev main_call6_v16 : Ref sig .tc := ⟨.hbm, 87, rfl⟩
abbrev main_v29 : Ref sig .tc := ⟨.hbm, 88, rfl⟩
abbrev main_v30 : Ref sig .tc := ⟨.hbm, 89, rfl⟩
abbrev main_call7_c : Ref sig .tc := ⟨.hbm, 90, rfl⟩
abbrev main_call7_v0 : Ref sig .tc := ⟨.hbm, 91, rfl⟩
abbrev main_call7_v1 : Ref sig .tc := ⟨.hbm, 92, rfl⟩
abbrev main_call7_c_0 : Ref sig .tc := ⟨.hbm, 93, rfl⟩
abbrev main_call7_v2 : Ref sig .tc := ⟨.hbm, 94, rfl⟩
abbrev main_call7_v3 : Ref sig .tc := ⟨.hbm, 95, rfl⟩
abbrev main_call7_v4 : Ref sig .tc := ⟨.hbm, 96, rfl⟩
abbrev main_call7_v5 : Ref sig .tc := ⟨.hbm, 97, rfl⟩
abbrev main_call7_v6 : Ref sig .tc := ⟨.hbm, 98, rfl⟩
abbrev main_call7_c_1 : Ref sig .tc := ⟨.hbm, 99, rfl⟩
abbrev main_call7_c_2 : Ref sig .tc := ⟨.hbm, 100, rfl⟩
abbrev main_call7_v7 : Ref sig .tc := ⟨.hbm, 101, rfl⟩
abbrev main_call7_v8 : Ref sig .tc := ⟨.hbm, 102, rfl⟩
abbrev main_call7_v9 : Ref sig .tc := ⟨.hbm, 103, rfl⟩
abbrev main_call7_v10 : Ref sig .tc := ⟨.hbm, 104, rfl⟩
abbrev main_call7_v11 : Ref sig .tc := ⟨.hbm, 105, rfl⟩
abbrev main_call7_v12 : Ref sig .tc := ⟨.hbm, 106, rfl⟩
abbrev main_call7_c_3 : Ref sig .tc := ⟨.hbm, 107, rfl⟩
abbrev main_call7_v13 : Ref sig .tc := ⟨.hbm, 108, rfl⟩
abbrev main_call7_v14 : Ref sig .tc := ⟨.hbm, 109, rfl⟩
abbrev main_call7_v15 : Ref sig .tc := ⟨.hbm, 110, rfl⟩
abbrev main_call7_cst : Ref sig .tc := ⟨.hbm, 111, rfl⟩
abbrev main_call7_v16 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_cst_2 : Ref sig .tc := ⟨.hbm, 119, rfl⟩
abbrev main_v37 : Ref sig .tc := ⟨.hbm, 120, rfl⟩
abbrev main_cst_3 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_cst_4 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩

abbrev nD : Nat := 1
abbrev τ : Topo := Topo.v7x

variable {F : FTy → Type} [FloatOps F]
-- ==== Proof.Bodies.lean ====
/-
  The four kernels' bodies, run once each on whole staging buffers.

  For every kernel there is a function of the blocks it reads (`projQ`, `projK`, `projV`, `attnBlk`, `outStep`) and a
  theorem saying that the body, started with its input buffers at given contents, ends with the inputs unchanged and
  its result buffers at that function's value.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.WritesUnit
public import Idealize.ShloMosaic.Lib.VecWindow
public import Idealize.ShloMosaic.Lib.ValueIdxCore
public import Idealize.ShloMosaic.Lib.Tactic
public import Idealize.ShloMosaic.Lib.WordCmp
public import Idealize.ShloMosaic.Lib.Exec
public import Idealize.ShloMosaic.Lib.Pipeline.Kit

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- A load of all of a whole buffer that holds `x` reads `x`. -/
theorem load_whole {s : Shape} {e : EltTy} {M : Memref sig .tc .vmem s e} (h : M.IsWhole) {off : Fin s.rank → ℕ}
    (inb : ∀ a, off a + s.size a ≤ s.size a) (x : Vec F s e) :
    M.view.readAt (Elt F) (Rect.unit off s.size inb).toLoadRect (h.unread x) = x := by
  rw [View.readAt_full, h.read_unread]

/-! ## What the bodies compute -/

/-- The index into one head's plane of an index into a pair of heads. -/
def ofPair (y : S2x2048x64.Idx) : S1x2048x64.Idx := ix3 (n1 := 2048) (n2 := 64) 0 (y 1) (y 2)

/-- The query projection of two heads: the block's first plane is the first head's normalised rows, the second the
    second head's. -/
def projQ (x : Vec F S2048x1024 .f32) (w : Vec F S1024x128 .f32) : Vec F S2x2048x64 .f32 := fun y =>
  if (y 0).val = 0 then k0_pay2 x w (ofPair y) else k0_pay3 x w (ofPair y)

/-- The normalised keys. -/
abbrev projK (x : Vec F S2048x1024 .f32) (w : Vec F S1024x128 .f32) : Vec F S2048x64 .f32 := k1_pay2 x w

/-- The values. -/
abbrev projV (x : Vec F S2048x1024 .f32) (w : Vec F S1024x128 .f32) : Vec F S2048x64 .f32 := k1_pay3 x w

/-- Whether some row's count of scores at or above its threshold differs from 32: the condition of the kernel's
    `lax.cond`, from the thresholds' two candidate columns `a` and `b` and the scores. -/
abbrev attnCond (s : FVec F S256x8192 .f32) (a b : FVec F S256x256 .f32) : BitVec 1 :=
  Scalar.cmpi .ne (Scalar.extui (Scalar.cmpf .ogt (k2_pay329 s a b) (Scalar.ofBits .f32 0x00000000#32))) 0#32

/-- One round of the exact extraction: the rows' maxima are taken, then every entry equal to its row's maximum is
    replaced by minus infinity. -/
def peel (p : FVec F S256x8192 .f32 × FVec F S256x1 .f32) : FVec F S256x8192 .f32 × FVec F S256x1 .f32 :=
  (k2_pay332 p.1, k2_pay331 p.1)

/-- The threshold of each row: the exact extraction's 32nd value where the condition holds, the fast path's threshold
    otherwise. -/
def attnThr (s : FVec F S256x8192 .f32) (a b : FVec F S256x256 .f32) : FVec F S256x1 .f32 :=
  if attnCond s a b = 1#1 then (Scf.fold (n := k2_t1_loop.trips) (fun _ p => peel p) (s, k2_pay330 (F := F))).2 else k2_pay328 a b

/-- The attention block: from the head's scale, its block of queries, the keys, the values with a column of ones, the
    memory keys, the memory values with a column of ones, and the two candidate columns of the fast path. -/
def attnBlk (i : grid2.Coords) (sc : Vec F S1x1x1 .f32) (q : Vec F S1x256x64 .f32) (k : Vec F S2048x64 .f32) (v : Vec F S2048x65 .bf16)
    (dk : Vec F S8192x64 .f32) (dv : Vec F S8192x65 .bf16) (a b : FVec F S256x256 .f32) : Vec F S1x256x64 .f32 :=
  k2_pay1 (BitVec.ofNat 32 (i 1).val) (k2_pay334 (k2_pay3 sc q dk) (attnThr (k2_pay3 sc q dk) a b) dv)
    (k2_pay335 (k2_pay3 sc q dk) (attnThr (k2_pay3 sc q dk) a b) dv) (k2_pay336 (k2_pay2 sc q) k) 256#32 v

/-- The output projection's buffer after its first branch: the first head stores its product. -/
def outFirst (i : grid3.Coords) (o : Vec F S1x2048x64 .f32) (w : Vec F S64x1024 .f32) (acc : Vec F S2048x1024 .f32) : Vec F S2048x1024 .f32 :=
  if k3_cond1 i = 1#1 then k3_pay1 o w else acc

/-- The buffer after the second branch: a later head adds its product to what is there. -/
def outNext (i : grid3.Coords) (o : Vec F S1x2048x64 .f32) (w : Vec F S64x1024 .f32) (acc : Vec F S2048x1024 .f32) : Vec F S2048x1024 .f32 :=
  if k3_cond2 i = 1#1 then k3_pay2 o w acc else acc

/-- One head's step of the output projection: the two branches above, after which the last head multiplies by the gate
    and adds the residual. -/
def outStep (i : grid3.Coords) (x : Vec F S2048x1024 .f32) (o : Vec F S1x2048x64 .f32) (w : Vec F S64x1024 .f32) (g : Vec F S1x1 .f32)
    (acc : Vec F S2048x1024 .f32) : Vec F S2048x1024 .f32 :=
  if k3_cond3 i = 1#1 then k3_pay3 x (outNext i o w (outFirst i o w acc)) g else outNext i o w (outFirst i o w acc)

/-! ## The runs -/

/-- The query projection's body. -/
theorem run0 (c : Dev nD) (i : grid0.Coords) (M1 : Memref sig .tc .vmem S2048x1024 .f32) (h1 : M1.IsWhole)
    (M2 : Memref sig .tc .vmem S1024x128 .f32) (h2 : M2.IsWhole) (M3 : Memref sig .tc .vmem S2x2048x64 .f32) (h3 : M3.IsWhole)
    (x : Vec F S2048x1024 .f32) (w : Vec F S1024x128 .f32) (E : Set ℕ) (K : PUnit → sProp 𝕄) :
    iprop(owns (c : Thread nD τ) M1 fullShare x ∗ owns (c : Thread nD τ) M2 fullShare w ∗ (∃ d, owns (c : Thread nD τ) M3 fullShare d)
        ∗ (iprop(owns (c : Thread nD τ) M1 fullShare x ∗ owns (c : Thread nD τ) M2 fullShare w
            ∗ owns (c : Thread nD τ) M3 fullShare (projQ x w)) -∗ K ⟨⟩))
      ⊢ wp frame (wpE (defs₀ (F := F)) Variants.none c none) E (cc0__proj_q_kernel i M1 h1 M2 h2 M3 h3) K := by
  simp only [cc0__proj_q_kernel_eq_skeleton]; unfold cc0__proj_q_kernel_skel
  unfold owns
  iintro ⟨⟨%f0, %hf0, H0⟩, ⟨%f1, %hf1, H1⟩, ⟨%d2, %f2, -, H2⟩, Hk⟩
  obtain rfl := h1.eq_unread hf0; obtain rfl := h2.eq_unread hf1
  sl_exec
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  funext y
  unfold projQ
  split
  · rename_i hy
    refine (View.read_writes_cons_unit_of_not_mem _ _ _ _ _ _ rfl 0 (.inl (by rw [hy]; decide))).trans ?_
    refine (View.read_writes_cons_unit_of_mem _ _ _ _ _ y (ofPair y) rfl (fun a => by fin_cases a <;> simp [hy, ofPair])).trans ?_
    rw [load_whole, load_whole]
  · rename_i hy
    have hy1 : (y 0).val = 1 := by have h : (y 0).val < 2 := (y 0).isLt; omega
    refine (View.read_writes_cons_unit_of_mem _ _ _ _ _ y (ofPair y) rfl (fun a => by fin_cases a <;> simp [hy1, ofPair])).trans ?_
    rw [load_whole, load_whole]

/-- The key and value projection's body. -/
theorem run1 (c : Dev nD) (M1 : Memref sig .tc .vmem S2048x1024 .f32) (h1 : M1.IsWhole)
    (M2 : Memref sig .tc .vmem S1024x128 .f32) (h2 : M2.IsWhole) (M3 : Memref sig .tc .vmem S2048x64 .f32) (h3 : M3.IsWhole)
    (M4 : Memref sig .tc .vmem S2048x64 .f32) (h4 : M4.IsWhole)
    (x : Vec F S2048x1024 .f32) (w : Vec F S1024x128 .f32) (E : Set ℕ) (K : PUnit → sProp 𝕄) :
    iprop(owns (c : Thread nD τ) M1 fullShare x ∗ owns (c : Thread nD τ) M2 fullShare w ∗ (∃ d, owns (c : Thread nD τ) M3 fullShare d)
        ∗ (∃ d, owns (c : Thread nD τ) M4 fullShare d)
        ∗ (iprop(owns (c : Thread nD τ) M1 fullShare x ∗ owns (c : Thread nD τ) M2 fullShare w
            ∗ owns (c : Thread nD τ) M3 fullShare (projK x w) ∗ owns (c : Thread nD τ) M4 fullShare (projV x w)) -∗ K ⟨⟩))
      ⊢ wp frame (wpE (defs₀ (F := F)) Variants.none c none) E (cc1__proj_kv_kernel M1 h1 M2 h2 M3 h3 M4 h4) K := by
  simp only [cc1__proj_kv_kernel_eq_skeleton]; unfold cc1__proj_kv_kernel_skel
  unfold owns
  iintro ⟨⟨%f0, %hf0, H0⟩, ⟨%f1, %hf1, H1⟩, ⟨%d2, %f2, -, H2⟩, ⟨%d3, %f3, -, H3⟩, Hk⟩
  obtain rfl := h1.eq_unread hf0; obtain rfl := h2.eq_unread hf1
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro; exact (View.read_writes_full _ _ _ _ _).trans (by rw [load_whole, load_whole])
  iexists _; isplitr
  swap; · iexact H3
  ipureintro; exact (View.read_writes_full _ _ _ _ _).trans (by rw [load_whole, load_whole])

/-- A choice between a counted loop whose second component alone is used and a value already there is one value: the
    loop is effect free, so it is its fold. -/
theorem choose_loop {α σ₁ σ₂ : Type} {C : Prop} {_ : Decidable C} (l : Scf.Loop 32) (ok : l.OK) (init : σ₁ × σ₂)
    (body : Fin l.trips → σ₁ × σ₂ → Prog (TpuEff nD τ sig (Elt F) Λ₀ .tc) (σ₁ × σ₂))
    (K : σ₁ × σ₂ → Prog (TpuEff nD τ sig (Elt F) Λ₀ .tc) α) (e : Prog (TpuEff nD τ sig (Elt F) Λ₀ .tc) α)
    (g : Fin l.trips → σ₁ × σ₂ → σ₁ × σ₂) (d : σ₂)
    (hg : ∀ k acc, body k acc = .ret (g k acc)) (hK : ∀ r, K r = K (init.1, r.2)) (he : e = K (init.1, d)) :
    (if C then Scf.Loop.for l ok init body >>= K else e) = K (init.1, if C then (Scf.fold g init).2 else d) := by
  split
  · unfold Scf.Loop.for
    rw [Scf.for_pure_bind l.lb l.ub l.st ok init body g hg, hK]
  · exact he

-- the run of some six hundred operations is one term
set_option maxHeartbeats 4000000 in
/-- The attention body: some two candidate columns `a`, `b` of the fast path (the values its sorting steps leave), and
    the block computed from them. -/
theorem run2 (c : Dev nD) (i : grid2.Coords) (M2 : Memref sig .tc .vmem S1x1x1 .f32) (h2 : M2.IsWhole)
    (M3 : Memref sig .tc .vmem S1x256x64 .f32) (h3 : M3.IsWhole) (M4 : Memref sig .tc .vmem S2048x64 .f32) (h4 : M4.IsWhole)
    (M5 : Memref sig .tc .vmem S2048x65 .bf16) (h5 : M5.IsWhole) (M6 : Memref sig .tc .vmem S8192x64 .f32) (h6 : M6.IsWhole)
    (M7 : Memref sig .tc .vmem S8192x65 .bf16) (h7 : M7.IsWhole) (M8 : Memref sig .tc .vmem S1x256x64 .f32) (h8 : M8.IsWhole)
    (x0 : Vec F S1x1x1 .f32) (x1 : Vec F S1x256x64 .f32) (x2 : Vec F S2048x64 .f32) (x3 : Vec F S2048x65 .bf16)
    (x4 : Vec F S8192x64 .f32) (x5 : Vec F S8192x65 .bf16) :
    ∃ a b : FVec F S256x256 .f32, ∀ (E : Set ℕ) (K : PUnit → sProp 𝕄),
      iprop(owns (c : Thread nD τ) M2 fullShare x0 ∗ owns (c : Thread nD τ) M3 fullShare x1 ∗ owns (c : Thread nD τ) M4 fullShare x2
          ∗ owns (c : Thread nD τ) M5 fullShare x3 ∗ owns (c : Thread nD τ) M6 fullShare x4 ∗ owns (c : Thread nD τ) M7 fullShare x5
          ∗ (∃ d, owns (c : Thread nD τ) M8 fullShare d)
          ∗ (iprop(owns (c : Thread nD τ) M2 fullShare x0 ∗ owns (c : Thread nD τ) M3 fullShare x1 ∗ owns (c : Thread nD τ) M4 fullShare x2
            ∗ owns (c : Thread nD τ) M5 fullShare x3 ∗ owns (c : Thread nD τ) M6 fullShare x4 ∗ owns (c : Thread nD τ) M7 fullShare x5
            ∗ owns (c : Thread nD τ) M8 fullShare (attnBlk i x0 x1 x2 x3 x4 x5 a b)) -∗ K ⟨⟩))
        ⊢ wp frame (wpE (defs₀ (F := F)) Variants.none c none) E (cc2__attn_kernel i M2 h2 M3 h3 M4 h4 M5 h5 M6 h6 M7 h7 M8 h8) K := by
  apply Exists.intro; apply Exists.intro; intro E K
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  have e0 := load_whole h2 inb_S1x1x1_S1x1x1_0_0_0 x0
  have e1 := load_whole h3 inb_S1x256x64_S1x256x64_0_0_0 x1
  have e2 := load_whole h4 inb_S2048x64_S2048x64_0_0 x2
  have e3 := load_whole h5 inb_S2048x65_S2048x65_0_0 x3
  have e4 := load_whole h6 inb_S8192x64_S8192x64_0_0 x4
  have e5 := load_whole h7 inb_S8192x65_S8192x65_0_0 x5
  sl_exec
  rw [choose_loop (g := fun _ p => peel p) (hg := ?hg) (hK := ?hK) (he := ?he)]
  case hg => exact fun _ _ => rfl
  case hK => exact fun _ => rfl
  case he => rfl
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  exact (View.read_writes_full _ _ _ _ _).trans (by unfold attnBlk attnThr; rfl)

-- eight cases, each a run
set_option maxHeartbeats 4000000 in
/-- The output projection's body at any grid point, over what its result buffer already holds. -/
theorem run3 (c : Dev nD) (i : grid3.Coords) (M1 : Memref sig .tc .vmem S2048x1024 .f32) (h1 : M1.IsWhole)
    (M2 : Memref sig .tc .vmem S1x2048x64 .f32) (h2 : M2.IsWhole) (M3 : Memref sig .tc .vmem S64x1024 .f32) (h3 : M3.IsWhole)
    (M4 : Memref sig .tc .vmem S1x1 .f32) (h4 : M4.IsWhole) (M5 : Memref sig .tc .vmem S2048x1024 .f32) (h5 : M5.IsWhole)
    (x : Vec F S2048x1024 .f32) (o : Vec F S1x2048x64 .f32) (w : Vec F S64x1024 .f32) (g : Vec F S1x1 .f32) (acc : Vec F S2048x1024 .f32)
    (E : Set ℕ) (K : PUnit → sProp 𝕄) :
    iprop(owns (c : Thread nD τ) M1 fullShare x ∗ owns (c : Thread nD τ) M2 fullShare o ∗ owns (c : Thread nD τ) M3 fullShare w
        ∗ owns (c : Thread nD τ) M4 fullShare g ∗ owns (c : Thread nD τ) M5 fullShare acc
        ∗ (iprop(owns (c : Thread nD τ) M1 fullShare x ∗ owns (c : Thread nD τ) M2 fullShare o ∗ owns (c : Thread nD τ) M3 fullShare w
        ∗ owns (c : Thread nD τ) M4 fullShare g ∗ owns (c : Thread nD τ) M5 fullShare (outStep i x o w g acc)) -∗ K ⟨⟩))
      ⊢ wp frame (wpE (defs₀ (F := F)) Variants.none c none) E (cc3__out_kernel i M1 h1 M2 h2 M3 h3 M4 h4 M5 h5) K := by
  simp only [cc3__out_kernel_eq_skeleton]; unfold cc3__out_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h1.eq_unread hf0; obtain rfl := h2.eq_unread hf1; obtain rfl := h3.eq_unread hf2
  obtain rfl := h4.eq_unread hf3; obtain rfl := h5.eq_unread hf4
  have lx := load_whole h1 inb_S2048x1024_S2048x1024_0_0 x
  have lo := load_whole h2 inb_S1x2048x64_S1x2048x64_0_0_0 o
  have lw := load_whole h3 inb_S64x1024_S64x1024_0_0 w
  have lg := load_whole h4 inb_S1x1_S1x1_0_0 g
  have la := load_whole h5 inb_S2048x1024_S2048x1024_0_0 acc
  unfold outStep outNext outFirst
  by_cases c1 : k3_cond1 i = 1#1 <;> by_cases c2 : k3_cond2 i = 1#1 <;> by_cases c3 : k3_cond3 i = 1#1 <;>
  first | rw [if_pos c1] | rw [if_neg c1]
  all_goals first | rw [if_pos c2] | rw [if_neg c2]
  all_goals first | rw [if_pos c3] | rw [if_neg c3]
  all_goals
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    iexists _; isplitr
    swap; · iexact H4
    ipureintro
  · exact (View.read_writes_full _ _ _ _ _).trans (congrArg (k3_pay3 x · g)
      ((View.readCov_full _ _ _ _ _).trans (congrArg (k3_pay2 o w) (View.readCov_full _ _ _ _ _))))
  · exact (View.read_writes_full _ _ _ _ _).trans (congrArg (k3_pay2 o w) (View.readCov_full _ _ _ _ _))
  · exact (View.read_writes_full _ _ _ _ _).trans (congrArg (k3_pay3 x · g) (View.readCov_full _ _ _ _ _))
  · exact View.read_writes_full _ _ _ _ _
  · exact (View.read_writes_full _ _ _ _ _).trans (congrArg (k3_pay3 x · g) (View.readCov_full _ _ _ _ _))
  · exact View.read_writes_full _ _ _ _ _
  · exact View.read_writes_full _ _ _ _ _
  · exact hf4

end Cert.Proof

end
-- ==== Proof.Calls.lean ====
/-
  The four calls as pipelines: what each leaves in its windows' staging buffers at every grid point, and the proof that
  its body does so.

  `V` gives the contents of the arrays as a call finds them. Nothing is owed between calls.
-/
module

public import proofs.«01_k».proof.Proof.Bodies
public import Idealize.ShloMosaic.Lib.Pipeline.Frame
public import Idealize.ShloMosaic.Lib.Pipeline.RegionArraysS

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every buffer of the program, as a call finds them. -/
abbrev Found (F : FTy → Type) [FloatOps F] := (c : Dev nD) → (b : Ref sig .tc) → Buf (Elt F) ((c : Thread nD τ).loc b)

variable (V : Found F)

/-! ## The query projection -/

/-- Window `w`'s block at point `t`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pipeline's proof data: the arrays as found, every input buffer at its block, the result at what the body computes. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projQ (blk0 V c 0 t) (blk0 V c 1 t)
  Φ _ := iprop(Pipeline.scopedRest (Ix := Unit) (Name := ℕ) (U := UR sig nD τ) (Lvl := ℕ) (Val := Elt F) spec0 c ∗ ∃ r, prngReg c r)
  q _ := fullShare
  owed _ := 0

/-- Block 0 of the query projection as a grid step leaves it. -/
theorem after0_0 (c : Dev nD) (t : Fin cfg0.N) : (dat0 V c).after 0 t = blk0 V c 0 t := by dsimp only [dat0]
/-- Block 1 of the query projection as a grid step leaves it. -/
theorem after0_1 (c : Dev nD) (t : Fin cfg0.N) : (dat0 V c).after 1 t = blk0 V c 1 t := by dsimp only [dat0]
/-- Block 2 of the query projection as a grid step leaves it. -/
theorem after0_2 (c : Dev nD) (t : Fin cfg0.N) : (dat0 V c).after 2 t = projQ (blk0 V c 0 t) (blk0 V c 1 t) := by dsimp only [dat0]
/-- Block 0 of the query projection as a grid step finds it: the part of its array that was fetched. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; dsimp only [dat0]) t d).trans
    (by unfold Dat.fetched Dat.blockOf blk0; dsimp only [dat0]; try rfl)
/-- Block 1 of the query projection as a grid step finds it: the part of its array that was fetched. -/
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; dsimp only [dat0]) t d).trans
    (by unfold Dat.fetched Dat.blockOf blk0; dsimp only [dat0]; try rfl)

/-- The body at point `t`, run on the windows' staging buffers. -/
theorem body0 (c : Dev nD) (t : Fin cfg0.N) :
    (iprop((dat0 V c).Φ t.castSucc ∗ (dat0 V c).owesAt () t.castSucc ∗ (∃ d, owns (c : Thread nD τ) (st0_0 t) fullShare ((dat0 V c).before 0 t d)) ∗ (∃ d, owns (c : Thread nD τ) (st0_1 t) fullShare ((dat0 V c).before 1 t d)) ∗ (∃ d, owns (c : Thread nD τ) (st0_2 t) fullShare ((dat0 V c).before 2 t d))) : sProp 𝕄)
      ⊢ wp frame (wpE (defs₀ (F := F)) Variants.none c none) Set.univ (bodyAt0 t) (fun _ =>
        iprop((dat0 V c).Φ t.succ ∗ (dat0 V c).owesAt () t.succ ∗ owns (c : Thread nD τ) (st0_0 t) fullShare ((dat0 V c).after 0 t) ∗ owns (c : Thread nD τ) (st0_1 t) fullShare ((dat0 V c).after 1 t) ∗ owns (c : Thread nD τ) (st0_2 t) fullShare ((dat0 V c).after 2 t))) := by
  rw [show (dat0 V c).Φ t.succ = (dat0 V c).Φ t.castSucc from rfl,
    show (dat0 V c).owesAt () t.succ = (dat0 V c).owesAt () t.castSucc from rfl]
  simp only [before0_0, before0_1]
  rw [after0_0, after0_1, after0_2]
  iintro ⟨HΦ, Ho, ⟨%d0, H0⟩, ⟨%d1, H1⟩, ⟨%d2, H2⟩⟩
  iapply (run0 c (grid0.coords t) _ _ _ _ _ _ (blk0 V c 0 t) (blk0 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for its body, at every point. -/
theorem obligation0 (c : Dev nD) : BodyObligation (dat0 V c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (body0 V c t) rfl .rfl fun _ => .rfl

/-! ## The key and value projection -/

/-- Window `w`'s block at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's proof data: the arrays as found, every input buffer at its block, the result at what the body computes. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => projK (blk1 V c 0 t) (blk1 V c 1 t)
    | ⟨3, _⟩ => projV (blk1 V c 0 t) (blk1 V c 1 t)
  Φ _ := iprop(Pipeline.scopedRest (Ix := Unit) (Name := ℕ) (U := UR sig nD τ) (Lvl := ℕ) (Val := Elt F) spec1 c ∗ ∃ r, prngReg c r)
  q _ := fullShare
  owed _ := 0

/-- Block 0 of the key and value projection as a grid step leaves it. -/
theorem after1_0 (c : Dev nD) (t : Fin cfg1.N) : (dat1 V c).after 0 t = blk1 V c 0 t := by dsimp only [dat1]
/-- Block 1 of the key and value projection as a grid step leaves it. -/
theorem after1_1 (c : Dev nD) (t : Fin cfg1.N) : (dat1 V c).after 1 t = blk1 V c 1 t := by dsimp only [dat1]
/-- Block 2 of the key and value projection as a grid step leaves it. -/
theorem after1_2 (c : Dev nD) (t : Fin cfg1.N) : (dat1 V c).after 2 t = projK (blk1 V c 0 t) (blk1 V c 1 t) := by dsimp only [dat1]
/-- Block 3 of the key and value projection as a grid step leaves it. -/
theorem after1_3 (c : Dev nD) (t : Fin cfg1.N) : (dat1 V c).after 3 t = projV (blk1 V c 0 t) (blk1 V c 1 t) := by dsimp only [dat1]
/-- Block 0 of the key and value projection as a grid step finds it: the part of its array that was fetched. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; dsimp only [dat1]) t d).trans
    (by unfold Dat.fetched Dat.blockOf blk1; dsimp only [dat1]; try rfl)
/-- Block 1 of the key and value projection as a grid step finds it: the part of its array that was fetched. -/
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; dsimp only [dat1]) t d).trans
    (by unfold Dat.fetched Dat.blockOf blk1; dsimp only [dat1]; try rfl)

/-- The body at point `t`, run on the windows' staging buffers. -/
theorem body1 (c : Dev nD) (t : Fin cfg1.N) :
    (iprop((dat1 V c).Φ t.castSucc ∗ (dat1 V c).owesAt () t.castSucc ∗ (∃ d, owns (c : Thread nD τ) (st1_0 t) fullShare ((dat1 V c).before 0 t d)) ∗ (∃ d, owns (c : Thread nD τ) (st1_1 t) fullShare ((dat1 V c).before 1 t d)) ∗ (∃ d, owns (c : Thread nD τ) (st1_2 t) fullShare ((dat1 V c).before 2 t d)) ∗ (∃ d, owns (c : Thread nD τ) (st1_3 t) fullShare ((dat1 V c).before 3 t d))) : sProp 𝕄)
      ⊢ wp frame (wpE (defs₀ (F := F)) Variants.none c none) Set.univ (bodyAt1 t) (fun _ =>
        iprop((dat1 V c).Φ t.succ ∗ (dat1 V c).owesAt () t.succ ∗ owns (c : Thread nD τ) (st1_0 t) fullShare ((dat1 V c).after 0 t) ∗ owns (c : Thread nD τ) (st1_1 t) fullShare ((dat1 V c).after 1 t) ∗ owns (c : Thread nD τ) (st1_2 t) fullShare ((dat1 V c).after 2 t) ∗ owns (c : Thread nD τ) (st1_3 t) fullShare ((dat1 V c).after 3 t))) := by
  rw [show (dat1 V c).Φ t.succ = (dat1 V c).Φ t.castSucc from rfl,
    show (dat1 V c).owesAt () t.succ = (dat1 V c).owesAt () t.castSucc from rfl]
  simp only [before1_0, before1_1]
  rw [after1_0, after1_1, after1_2, after1_3]
  iintro ⟨HΦ, Ho, ⟨%d0, H0⟩, ⟨%d1, H1⟩, ⟨%d2, H2⟩, ⟨%d3, H3⟩⟩
  iapply (run1 c _ _ _ _ _ _ _ _ (blk1 V c 0 t) (blk1 V c 1 t) Set.univ _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation for its body, at every point. -/
theorem obligation1 (c : Dev nD) : BodyObligation (dat1 V c) (defs₀ (F := F)) Variants.none () Set.univ := fun t => by
  have hrow : defs₀ (F := F) .tc cfg1.body (cfg1.bodyArgs t (cfg1.slots t)) = bodyAt1 t := by
    unfold defs₀; rw [Defs.onTc_tc]
  rw [bigSep_W1, bigSep_W1, hrow]
  exact triple_restated (body1 V c t) rfl .rfl fun _ => .rfl

/-! ## The attention -/

/-- Window `w`'s block at point `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the attention body leaves in its result block at point `t`, from the blocks it reads there. -/
def attnAt (c : Dev nD) (t : Fin cfg2.N) : Vec F S1x256x64 .f32 :=
  let R := run2 (F := F) c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3))
    (st2_4 t) (hstage2_4 ((cfg2.slots t 4).cast nbuf2_4)) (st2_5 t) (hstage2_5 ((cfg2.slots t 5).cast nbuf2_5))
    (st2_6 t) (hstage2_6 ((cfg2.slots t 6).cast nbuf2_6))
    (blk2 V c 0 t) (blk2 V c 1 t) (blk2 V c 2 t) (blk2 V c 3 t) (blk2 V c 4 t) (blk2 V c 5 t)
  attnBlk (grid2.coords t) (blk2 V c 0 t) (blk2 V c 1 t) (blk2 V c 2 t) (blk2 V c 3 t) (blk2 V c 4 t) (blk2 V c 5 t) R.choose R.choose_spec.choose

/-- The result block is the attention of its inputs, whatever the two candidate columns are. -/
theorem attnAt_eq (c : Dev nD) (t : Fin cfg2.N) : ∃ a b : FVec F S256x256 .f32, attnAt V c t =
    attnBlk (grid2.coords t) (blk2 V c 0 t) (blk2 V c 1 t) (blk2 V c 2 t) (blk2 V c 3 t) (blk2 V c 4 t) (blk2 V c 5 t) a b :=
  ⟨_, _, rfl⟩

/-- The pipeline's proof data: the arrays as found, every input buffer at its block, the result at what the body computes. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => attnAt V c t
  Φ _ := iprop(Pipeline.scopedRest (Ix := Unit) (Name := ℕ) (U := UR sig nD τ) (Lvl := ℕ) (Val := Elt F) spec2 c ∗ ∃ r, prngReg c r)
  q _ := fullShare
  owed _ := 0

/-- Block 0 of the attention as a grid step leaves it. -/
theorem after2_0 (c : Dev nD) (t : Fin cfg2.N) : (dat2 V c).after 0 t = blk2 V c 0 t := by dsimp only [dat2]
/-- Block 1 of the attention as a grid step leaves it. -/
theorem after2_1 (c : Dev nD) (t : Fin cfg2.N) : (dat2 V c).after 1 t = blk2 V c 1 t := by dsimp only [dat2]
/-- Block 2 of the attention as a grid step leaves it. -/
theorem after2_2 (c : Dev nD) (t : Fin cfg2.N) : (dat2 V c).after 2 t = blk2 V c 2 t := by dsimp only [dat2]
/-- Block 3 of the attention as a grid step leaves it. -/
theorem after2_3 (c : Dev nD) (t : Fin cfg2.N) : (dat2 V c).after 3 t = blk2 V c 3 t := by dsimp only [dat2]
/-- Block 4 of the attention as a grid step leaves it. -/
theorem after2_4 (c : Dev nD) (t : Fin cfg2.N) : (dat2 V c).after 4 t = blk2 V c 4 t := by dsimp only [dat2]
/-- Block 5 of the attention as a grid step leaves it. -/
theorem after2_5 (c : Dev nD) (t : Fin cfg2.N) : (dat2 V c).after 5 t = blk2 V c 5 t := by dsimp only [dat2]
/-- Block 6 of the attention as a grid step leaves it. -/
theorem after2_6 (c : Dev nD) (t : Fin cfg2.N) : (dat2 V c).after 6 t = attnAt V c t := by dsimp only [dat2]
/-- Block 0 of the attention as a grid step finds it: the part of its array that was fetched. -/
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; dsimp only [dat2]) t d).trans
    (by unfold Dat.fetched Dat.blockOf blk2; dsimp only [dat2]; try rfl)
/-- Block 1 of the attention as a grid step finds it: the part of its array that was fetched. -/
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; dsimp only [dat2]) t d).trans
    (by unfold Dat.fetched Dat.blockOf blk2; dsimp only [dat2]; try rfl)
/-- Block 2 of the attention as a grid step finds it: the part of its array that was fetched. -/
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; dsimp only [dat2]) t d).trans
    (by unfold Dat.fetched Dat.blockOf blk2; dsimp only [dat2]; try rfl)
/-- Block 3 of the attention as a grid step finds it: the part of its array that was fetched. -/
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; dsimp only [dat2]) t d).trans
    (by unfold Dat.fetched Dat.blockOf blk2; dsimp only [dat2]; try rfl)
/-- Block 4 of the attention as a grid step finds it: the part of its array that was fetched. -/
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; dsimp only [dat2]) t d).trans
    (by unfold Dat.fetched Dat.blockOf blk2; dsimp only [dat2]; try rfl)
/-- Block 5 of the attention as a grid step finds it: the part of its array that was fetched. -/
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf blk2; dsimp only [dat2]) t d).trans
    (by unfold Dat.fetched Dat.blockOf blk2; dsimp only [dat2]; try rfl)

/-- The body at point `t`, run on the windows' staging buffers. -/
theorem body2 (c : Dev nD) (t : Fin cfg2.N) :
    (iprop((dat2 V c).Φ t.castSucc ∗ (dat2 V c).owesAt () t.castSucc ∗ (∃ d, owns (c : Thread nD τ) (st2_0 t) fullShare ((dat2 V c).before 0 t d)) ∗ (∃ d, owns (c : Thread nD τ) (st2_1 t) fullShare ((dat2 V c).before 1 t d)) ∗ (∃ d, owns (c : Thread nD τ) (st2_2 t) fullShare ((dat2 V c).before 2 t d)) ∗ (∃ d, owns (c : Thread nD τ) (st2_3 t) fullShare ((dat2 V c).before 3 t d)) ∗ (∃ d, owns (c : Thread nD τ) (st2_4 t) fullShare ((dat2 V c).before 4 t d)) ∗ (∃ d, owns (c : Thread nD τ) (st2_5 t) fullShare ((dat2 V c).before 5 t d)) ∗ (∃ d, owns (c : Thread nD τ) (st2_6 t) fullShare ((dat2 V c).before 6 t d))) : sProp 𝕄)
      ⊢ wp frame (wpE (defs₀ (F := F)) Variants.none c none) Set.univ (bodyAt2 t) (fun _ =>
        iprop((dat2 V c).Φ t.succ ∗ (dat2 V c).owesAt () t.succ ∗ owns (c : Thread nD τ) (st2_0 t) fullShare ((dat2 V c).after 0 t) ∗ owns (c : Thread nD τ) (st2_1 t) fullShare ((dat2 V c).after 1 t) ∗ owns (c : Thread nD τ) (st2_2 t) fullShare ((dat2 V c).after 2 t) ∗ owns (c : Thread nD τ) (st2_3 t) fullShare ((dat2 V c).after 3 t) ∗ owns (c : Thread nD τ) (st2_4 t) fullShare ((dat2 V c).after 4 t) ∗ owns (c : Thread nD τ) (st2_5 t) fullShare ((dat2 V c).after 5 t) ∗ owns (c : Thread nD τ) (st2_6 t) fullShare ((dat2 V c).after 6 t))) := by
  rw [show (dat2 V c).Φ t.succ = (dat2 V c).Φ t.castSucc from rfl,
    show (dat2 V c).owesAt () t.succ = (dat2 V c).owesAt () t.castSucc from rfl]
  simp only [before2_0, before2_1, before2_2, before2_3, before2_4, before2_5]
  rw [after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  unfold attnAt
  iapply ((run2 (F := F) c (grid2.coords t) _ _ _ _ _ _ _ _ _ _ _ _ _ _ (blk2 V c 0 t) (blk2 V c 1 t) (blk2 V c 2 t) (blk2 V c 3 t) (blk2 V c 4 t) (blk2 V c 5 t)).choose_spec.choose_spec Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation for its body, at every point. -/
theorem obligation2 (c : Dev nD) : BodyObligation (dat2 V c) (defs₀ (F := F)) Variants.none () Set.univ := fun t => by
  have hrow : defs₀ (F := F) .tc cfg2.body (cfg2.bodyArgs t (cfg2.slots t)) = bodyAt2 t := by
    unfold defs₀; rw [Defs.onTc_tc]
  rw [bigSep_W2, bigSep_W2, hrow]
  exact triple_restated (body2 V c t) rfl .rfl fun _ => .rfl

/-! ## The output projection -/

/-- Window `w`'s block at point `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the output projection's one result buffer holds after `n + 1` heads. -/
def outAt (c : Dev nD) : (n : ℕ) → n < cfg3.N → Vec F S2048x1024 .f32
  | 0, h => outStep (grid3.coords ⟨0, h⟩) (blk3 V c 0 ⟨0, h⟩) (blk3 V c 1 ⟨0, h⟩) (blk3 V c 2 ⟨0, h⟩) (blk3 V c 3 ⟨0, h⟩) (blk3 V c 0 ⟨0, h⟩)
  | n + 1, h => outStep (grid3.coords ⟨n + 1, h⟩) (blk3 V c 0 ⟨n + 1, h⟩) (blk3 V c 1 ⟨n + 1, h⟩) (blk3 V c 2 ⟨n + 1, h⟩) (blk3 V c 3 ⟨n + 1, h⟩)
      (outAt c n (Nat.lt_of_succ_lt h))

/-- At a point where the first head's branch is taken, what the buffer held before does not matter. -/
theorem outStep_first {i : grid3.Coords} (h : k3_cond1 i = 1#1) (x : Vec F S2048x1024 .f32) (o : Vec F S1x2048x64 .f32) (w : Vec F S64x1024 .f32)
    (g : Vec F S1x1 .f32) (acc acc' : Vec F S2048x1024 .f32) : outStep i x o w g acc = outStep i x o w g acc' := by
  unfold outStep outFirst
  rw [if_pos h, if_pos h]

/-- At every grid point some branch stores to the result buffer. -/
theorem live3 : ∀ i : grid3.Coords, cfg3.idle 4 i = false := by decide +kernel

/-- The first grid point takes the first head's branch. -/
theorem cond1_zero : ∀ t : Fin cfg3.N, t.val = 0 → k3_cond1 (grid3.coords t) = 1#1 := by decide +kernel

/-- The pipeline's proof data: the arrays as found, every input buffer at its block, the result at what the body computes. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => outAt V c t.val t.isLt
  Φ _ := iprop(Pipeline.scopedRest (Ix := Unit) (Name := ℕ) (U := UR sig nD τ) (Lvl := ℕ) (Val := Elt F) spec3 c ∗ ∃ r, prngReg c r)
  q _ := fullShare
  owed _ := 0

/-- Block 0 of the output projection as a grid step leaves it. -/
theorem after3_0 (c : Dev nD) (t : Fin cfg3.N) : (dat3 V c).after 0 t = blk3 V c 0 t := by dsimp only [dat3]
/-- Block 1 of the output projection as a grid step leaves it. -/
theorem after3_1 (c : Dev nD) (t : Fin cfg3.N) : (dat3 V c).after 1 t = blk3 V c 1 t := by dsimp only [dat3]
/-- Block 2 of the output projection as a grid step leaves it. -/
theorem after3_2 (c : Dev nD) (t : Fin cfg3.N) : (dat3 V c).after 2 t = blk3 V c 2 t := by dsimp only [dat3]
/-- Block 3 of the output projection as a grid step leaves it. -/
theorem after3_3 (c : Dev nD) (t : Fin cfg3.N) : (dat3 V c).after 3 t = blk3 V c 3 t := by dsimp only [dat3]
/-- Block 4 of the output projection as a grid step leaves it. -/
theorem after3_4 (c : Dev nD) (t : Fin cfg3.N) : (dat3 V c).after 4 t = outAt V c t.val t.isLt := by dsimp only [dat3]
/-- Block 0 of the output projection as a grid step finds it: the part of its array that was fetched. -/
theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; dsimp only [dat3]) t d).trans
    (by unfold Dat.fetched Dat.blockOf blk3; dsimp only [dat3]; try rfl)
/-- Block 1 of the output projection as a grid step finds it: the part of its array that was fetched. -/
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; dsimp only [dat3]) t d).trans
    (by unfold Dat.fetched Dat.blockOf blk3; dsimp only [dat3]; try rfl)
/-- Block 2 of the output projection as a grid step finds it: the part of its array that was fetched. -/
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; dsimp only [dat3]) t d).trans
    (by unfold Dat.fetched Dat.blockOf blk3; dsimp only [dat3]; try rfl)
/-- Block 3 of the output projection as a grid step finds it: the part of its array that was fetched. -/
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; dsimp only [dat3]) t d).trans
    (by unfold Dat.fetched Dat.blockOf blk3; dsimp only [dat3]; try rfl)

/-- The body at point `t`, run on the windows' staging buffers. -/
theorem body3 (c : Dev nD) (t : Fin cfg3.N) :
    (iprop((dat3 V c).Φ t.castSucc ∗ (dat3 V c).owesAt () t.castSucc ∗ (∃ d, owns (c : Thread nD τ) (st3_0 t) fullShare ((dat3 V c).before 0 t d)) ∗ (∃ d, owns (c : Thread nD τ) (st3_1 t) fullShare ((dat3 V c).before 1 t d)) ∗ (∃ d, owns (c : Thread nD τ) (st3_2 t) fullShare ((dat3 V c).before 2 t d)) ∗ (∃ d, owns (c : Thread nD τ) (st3_3 t) fullShare ((dat3 V c).before 3 t d)) ∗ (∃ d, owns (c : Thread nD τ) (st3_4 t) fullShare ((dat3 V c).before 4 t d))) : sProp 𝕄)
      ⊢ wp frame (wpE (defs₀ (F := F)) Variants.none c none) Set.univ (bodyAt3 t) (fun _ =>
        iprop((dat3 V c).Φ t.succ ∗ (dat3 V c).owesAt () t.succ ∗ owns (c : Thread nD τ) (st3_0 t) fullShare ((dat3 V c).after 0 t) ∗ owns (c : Thread nD τ) (st3_1 t) fullShare ((dat3 V c).after 1 t) ∗ owns (c : Thread nD τ) (st3_2 t) fullShare ((dat3 V c).after 2 t) ∗ owns (c : Thread nD τ) (st3_3 t) fullShare ((dat3 V c).after 3 t) ∗ owns (c : Thread nD τ) (st3_4 t) fullShare ((dat3 V c).after 4 t))) := by
  rw [show (dat3 V c).Φ t.succ = (dat3 V c).Φ t.castSucc from rfl,
    show (dat3 V c).owesAt () t.succ = (dat3 V c).owesAt () t.castSucc from rfl]
  simp only [before3_0, before3_1, before3_2, before3_3]
  rw [after3_0, after3_1, after3_2, after3_3, after3_4]
  have hb : ∀ d, ∃ acc, (dat3 V c).before 4 t d = acc ∧ outAt V c t.val t.isLt =
      outStep (grid3.coords t) (blk3 V c 0 t) (blk3 V c 1 t) (blk3 V c 2 t) (blk3 V c 3 t) acc := by
    intro d
    obtain ⟨n, hn⟩ := t
    cases n with
    | zero => exact ⟨_, rfl, outStep_first (cond1_zero ⟨0, hn⟩ rfl) _ _ _ _ _ _⟩
    | succ n =>
      refine ⟨_, (dat3 V c).before_out_kept 4 rfl ⟨n + 1, hn⟩ (Nat.succ_ne_zero n) ?_ live3 (fun _ _ => rfl) d, ?_⟩
      · have hn' : n + 1 < 16 := hn
        rw [Bool.eq_false_iff]; intro h
        have := (flush3_4 _).mp h
        simp only [Nat.add_sub_cancel] at this; omega
      · rw [after3_4]; rfl
  iintro ⟨HΦ, Ho, ⟨%d0, H0⟩, ⟨%d1, H1⟩, ⟨%d2, H2⟩, ⟨%d3, H3⟩, ⟨%d4, H4⟩⟩
  obtain ⟨acc, he, ho⟩ := hb d4
  rw [he, ho]
  iapply (run3 c (grid3.coords t) _ _ _ _ _ _ _ _ _ _ (blk3 V c 0 t) (blk3 V c 1 t) (blk3 V c 2 t) (blk3 V c 3 t) acc Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation for its body, at every point. -/
theorem obligation3 (c : Dev nD) : BodyObligation (dat3 V c) (defs₀ (F := F)) Variants.none () Set.univ := fun t => by
  have hrow : defs₀ (F := F) .tc cfg3.body (cfg3.bodyArgs t (cfg3.slots t)) = bodyAt3 t := by
    unfold defs₀; rw [Defs.onTc_tc]
  rw [bigSep_W3, bigSep_W3, hrow]
  have hl := live3 (cfg3.grid.coords t)
  rw [hl]
  exact triple_restated (body3 V c t) rfl .rfl fun _ => .rfl

end Cert.Proof

end
-- ==== Proof.Run.lean ====
/-
  The whole program's run: host operations, then the four calls with host operations between them.

  `outs m` names what each call leaves in the arrays it writes, from launch memory `m`. The run ends with the result
  buffer at the last valuation, every argument as launched and every semaphore counter at zero.
-/
module

public import proofs.«01_k».proof.Proof.Calls
public import proofs.«01_k».proof.Proof.Gen.KernelIdeal.Regions

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg afterRegion)

variable {F : FTy → Type} [FloatOps F]

local notation "𝕄" => MT nD τ sig Unit (Elt F) ℕ (UR sig nD τ) ℕ

/-- A call changes no buffer but its results' arrays. -/
theorem afterRegion_same {cfg : Cfg sig Λ₀} {c : Dev nD} (dat : Dat τ (Elt F) Unit ℕ (UR sig nD τ) ℕ cfg c) (W : Valuation τ sig (Elt F))
    (hinj : Function.Injective (Pipeline.arrRef cfg.spec)) (hA : ∀ w, dat.A w = W (Proc.devRef .tc (Pipeline.arrRef cfg.spec w))) (b : DevRef τ sig)
    (hb : ∀ w, (cfg.win w).isOut = true → b ≠ Proc.devRef .tc (Pipeline.arrRef cfg.spec w)) : afterRegion dat W b = W b := by
  by_cases h : ∃ r : Ref sig .tc, b = Proc.devRef .tc r
  · obtain ⟨r, rfl⟩ := h
    refine Pipeline.afterRegion_keeps dat W hinj hA r fun w e => ?_
    rw [Bool.eq_false_iff]
    intro ho
    exact hb w ho (by rw [e])
  · unfold afterRegion
    rw [dif_neg]
    rintro ⟨w, e⟩
    exact h ⟨_, e⟩

/-! ## What the calls leave -/

/-- A valuation of the buffers as the calls read them. -/
abbrev found (W : Dev nD → Valuation τ sig (Elt F)) : Found F := fun c b => W c (Proc.devRef .tc b)

variable (m : (ℓ : Loc nD τ sig) → Buf (Elt F) ℓ)

/-- After the query projection. -/
def left2 (r : Ref sig .tc) (c : Dev nD) : Buf (Elt F) ((c : Thread nD τ).loc r) := afterRegion (dat0 (found (V1 m)) c) (V1 m c) (Proc.devRef .tc r)
/-- What the key and value projection finds. -/
def at2 (c : Dev nD) : Valuation τ sig (Elt F) := V2 m (fun _ => left2 m) c
/-- After the key and value projection. -/
def left3 (r : Ref sig .tc) (c : Dev nD) : Buf (Elt F) ((c : Thread nD τ).loc r) := afterRegion (dat1 (found (at2 m)) c) (at2 m c) (Proc.devRef .tc r)
/-- What the attention finds. -/
def at4 (c : Dev nD) : Valuation τ sig (Elt F) := V4 m (fun k => match k with | 2 => left2 m | _ => left3 m) c
/-- After the attention. -/
def left5 (r : Ref sig .tc) (c : Dev nD) : Buf (Elt F) ((c : Thread nD τ).loc r) := afterRegion (dat2 (found (at4 m)) c) (at4 m c) (Proc.devRef .tc r)
/-- What the output projection finds. -/
def at6 (c : Dev nD) : Valuation τ sig (Elt F) := V6 m (fun k => match k with | 2 => left2 m | 3 => left3 m | _ => left5 m) c
/-- After the output projection. -/
def left7 (r : Ref sig .tc) (c : Dev nD) : Buf (Elt F) ((c : Thread nD τ).loc r) := afterRegion (dat3 (found (at6 m)) c) (at6 m c) (Proc.devRef .tc r)

/-- What each call leaves. -/
def outs : Outs (F := F) := fun k => match k with | 2 => left2 m | 3 => left3 m | 5 => left5 m | _ => left7 m

/-- The buffers after the query projection are the next valuation: only its results have changed. -/
theorem after0_eq (c : Dev nD) : afterRegion (dat0 (found (V1 m)) c) (V1 m c) = V2 m (outs m) c := by
  funext b
  by_cases h : b = Proc.devRef .tc main_v10
  · subst h; dsimp only [V2, V3, V5, V7]; rw [Function.update_self]; rfl
  · exact (afterRegion_same _ _ launch0.win.arr_inj (fun _ => rfl) b (fun w => by fin_cases w <;> first | exact fun _ => h | exact fun ho => absurd ho (by decide))).trans (Function.update_of_ne h _ _).symm

/-- The buffers after the key and value projection are the next valuation: only its results have changed. -/
theorem after1_eq (c : Dev nD) : afterRegion (dat1 (found (at2 m)) c) (at2 m c) = V3 m (outs m) c := by
  funext b
  by_cases h1 : b = Proc.devRef .tc main_v11_1
  · subst h1; dsimp only [V2, V3, V5, V7]; rw [Function.update_self]; rfl
  by_cases h0 : b = Proc.devRef .tc main_v11_0
  · subst h0; dsimp only [V2, V3, V5, V7]; rw [Function.update_of_ne h1, Function.update_self]; rfl
  · exact (afterRegion_same _ _ launch1.win.arr_inj (fun _ => rfl) b (fun w => by fin_cases w <;> first | exact fun _ => h0 | exact fun _ => h1 | exact fun ho => absurd ho (by decide))).trans
      ((Function.update_of_ne h1 _ _).trans (Function.update_of_ne h0 _ _)).symm

/-- The buffers after the attention are the next valuation: only its results have changed. -/
theorem after2_eq (c : Dev nD) : afterRegion (dat2 (found (at4 m)) c) (at4 m c) = V5 m (outs m) c := by
  funext b
  by_cases h : b = Proc.devRef .tc main_v15
  · subst h; dsimp only [V2, V3, V5, V7]; rw [Function.update_self]; rfl
  · exact (afterRegion_same _ _ launch2.win.arr_inj (fun _ => rfl) b (fun w => by fin_cases w <;> first | exact fun _ => h | exact fun ho => absurd ho (by decide))).trans (Function.update_of_ne h _ _).symm

/-- The buffers after the output projection are the next valuation: only its results have changed. -/
theorem after3_eq (c : Dev nD) : afterRegion (dat3 (found (at6 m)) c) (at6 m c) = V7 m (outs m) c := by
  funext b
  by_cases h : b = Proc.devRef .tc main_v17
  · subst h; dsimp only [V2, V3, V5, V7]; rw [Function.update_self]; rfl
  · exact (afterRegion_same _ _ launch3.win.arr_inj (fun _ => rfl) b (fun w => by fin_cases w <;> first | exact fun _ => h | exact fun ho => absurd ho (by decide))).trans (Function.update_of_ne h _ _).symm

/-! ## The calls as segments of the run -/

/-- The four pipelines' proof data, each from what its call finds. -/
def pdats : (p : Fin 4) → (c : Dev nD) → Dat τ (Elt F) Unit ℕ (UR sig nD τ) ℕ (cfgs p) c
  | ⟨0, _⟩ => fun c => dat0 (found (V1 m)) c
  | ⟨1, _⟩ => fun c => dat1 (found (at2 m)) c
  | ⟨2, _⟩ => fun c => dat2 (found (at4 m)) c
  | ⟨3, _⟩ => fun c => dat3 (found (at6 m)) c

/-- Every cell of a TensorCore may be waited on, -/
def waitable (g : GSem nD τ sig) : Finset Unit := if g.1.2 = .tc then {()} else ∅
/-- at one level. -/
def lev (_ : GSem nD τ sig) (_ : Unit) : ℕ := 0

/-- The calls' own waits lie at one level, and nothing owed lies below it. -/
theorem cut (p : Fin 4) : Pipeline.LevelCut (pcfgs (F := F)) adm () waitable lev p 0 (fun _ => 0) where
  hι c w s := by unfold waitable; rw [if_pos rfl]; exact Finset.mem_singleton_self _
  hιb _ _ _ := le_refl _
  hD c g i h := absurd h (lt_irrefl _)

/-- The generator register, at some state. -/
abbrev reg (c : Dev nD) : sProp 𝕄 := iprop(∃ r, prngReg c r)
/-- What rides between two items beside the buffers: nothing owed, and the register. -/
abbrev rest (c : Dev nD) : sProp 𝕄 := iprop((∃ Wd, owes (c : Thread nD τ) (0 : CellTallies nD τ sig Unit) Wd) ∗ reg c ∗ emp)

/-- The calls' arrays are among the program's buffers. -/
theorem arrRefs_sub (p : Fin 4) : Pipeline.arrRefs (cfgs p).spec ⊆ Pipeline.ucRefs τ sig :=
  Pipeline.arrRefs_sub_ucRefs _ (by revert p; decide)

/-- A call as a segment of the run: entered from every buffer at the valuation `W`, left at what its proof data say. -/
def callSeg (pd : (p : Fin 4) → (c : Dev nD) → Dat τ (Elt F) Unit ℕ (UR sig nD τ) ℕ (cfgs p) c) (p : Fin 4)
    (kit : Pipeline.PLaunchFacts (nD := nD) (τ := τ) (pcfgs (F := F)) p)
    (hbody : ∀ c, Pipeline.BodyObligationLoose (pd p c) (defs₀ (F := F)) Variants.none () Set.univ)
    (howed : ∀ c t, (pd p c).owed t = 0) (hrec : ∀ c, (pd p c).recorded 0 = Set.univ) (hshare : ∀ c w, (pd p c).share w = fullShare)
    (hΦ : ∀ c t, (pd p c).Φ t = iprop(Pipeline.scopedRest (Ix := Unit) (Name := ℕ) (U := UR sig nD τ) (Lvl := ℕ) (Val := Elt F) (cfgs p).spec c ∗ reg c))
    (W : Dev nD → Valuation τ sig (Elt F)) (hW : ∀ c w, (pd p c).arrAt w 0 = W c (Proc.devRef .tc (Pipeline.arrRef (cfgs p).spec w))) :
    RegionSeg (pcfgs (F := F)) adm pd () defs₀ Variants.none waitable lev p :=
  RegionSeg.ofHeldIn (pcfgs (F := F)) adm pd () defs₀ Variants.none waitable lev p 0 (Pipeline.ucRefs τ sig) reg reg kit rfl
    hbody howed hrec hshare (fun c => by rw [hΦ]) (fun c => by rw [hΦ])
    (fun _ => 0) (cut p) (fun _ => iprop(emp)) W hW

/-- A call's segment is entered from every buffer at the valuation given. -/
theorem callSeg_pre (pd : (p : Fin 4) → (c : Dev nD) → Dat τ (Elt F) Unit ℕ (UR sig nD τ) ℕ (cfgs p) c) (p : Fin 4) (kit hbody howed hrec hshare hΦ)
    (W : Dev nD → Valuation τ sig (Elt F)) (hW) (c : Dev nD) :
    iprop(StableHlo.held (c : Thread nD τ) (Pipeline.ucRefs τ sig) (W c) ∗ rest c) ⊢ (callSeg pd p kit hbody howed hrec hshare hΦ W hW).pre c :=
  RegionSeg.ofHeldIn_pre (pcs := pcfgs (F := F)) (a := adm) (pdats := pd) (D := 0) (X := reg) (Y := reg) (R := fun _ => iprop(emp)) (W := W) (arrRefs_sub p) c

/-- A call's segment is left with every buffer at the valuation after its run. -/
theorem callSeg_post (pd : (p : Fin 4) → (c : Dev nD) → Dat τ (Elt F) Unit ℕ (UR sig nD τ) ℕ (cfgs p) c) (p : Fin 4) (kit hbody howed hrec hshare hΦ)
    (W : Dev nD → Valuation τ sig (Elt F)) (hW) (c : Dev nD) :
    (callSeg pd p kit hbody howed hrec hshare hΦ W hW).post c
      ⊢ iprop(StableHlo.held (c : Thread nD τ) (Pipeline.ucRefs τ sig) (afterRegion (pd p c) (W c)) ∗ rest c) :=
  RegionSeg.ofHeldIn_post (pcs := pcfgs (F := F)) (a := adm) (pdats := pd) (D := 0) (X := reg) (Y := reg) (R := fun _ => iprop(emp)) (W := W) (arrRefs_sub p) c

/-- Call 0 as a segment. -/
def seg_call0 : RegionSeg (pcfgs (F := F)) adm (pdats m) () defs₀ Variants.none waitable lev 0 :=
  callSeg (pdats m) 0 launch0.toP (fun c => (obligation0 (found (V1 m)) c).loose) (fun _ _ => rfl) (fun _ => rfl) (fun _ _ => ite_self _)
    (fun _ _ => rfl) (V1 m) (fun _ _ => rfl)

/-- Call 0 may be entered from the buffers as the run has them before it. -/
theorem seg_call0_pre (c : Dev nD) : iprop(StableHlo.held (c : Thread nD τ) (Pipeline.ucRefs τ sig) (V1 m c) ∗ rest c) ⊢ (seg_call0 m).pre c :=
  callSeg_pre (pdats m) 0 _ _ _ _ _ _ (V1 m) _ c

/-- Call 0 leaves the buffers as the run has them after it. -/
theorem seg_call0_post (c : Dev nD) : (seg_call0 m).post c ⊢ iprop(StableHlo.held (c : Thread nD τ) (Pipeline.ucRefs τ sig) (V2 m (outs m) c) ∗ rest c) :=
  (callSeg_post (pdats m) 0 _ _ _ _ _ _ (V1 m) _ c).trans (by rw [show afterRegion (pdats m 0 c) (V1 m c) = V2 m (outs m) c from after0_eq m c])

/-- Call 1 as a segment. -/
def seg_call1 : RegionSeg (pcfgs (F := F)) adm (pdats m) () defs₀ Variants.none waitable lev 1 :=
  callSeg (pdats m) 1 launch1.toP (fun c => (obligation1 (found (at2 m)) c).loose) (fun _ _ => rfl) (fun _ => rfl) (fun _ _ => ite_self _)
    (fun _ _ => rfl) (at2 m) (fun _ _ => rfl)

/-- Call 1 may be entered from the buffers as the run has them before it. -/
theorem seg_call1_pre (c : Dev nD) : iprop(StableHlo.held (c : Thread nD τ) (Pipeline.ucRefs τ sig) (at2 m c) ∗ rest c) ⊢ (seg_call1 m).pre c :=
  callSeg_pre (pdats m) 1 _ _ _ _ _ _ (at2 m) _ c

/-- Call 1 leaves the buffers as the run has them after it. -/
theorem seg_call1_post (c : Dev nD) : (seg_call1 m).post c ⊢ iprop(StableHlo.held (c : Thread nD τ) (Pipeline.ucRefs τ sig) (V3 m (outs m) c) ∗ rest c) :=
  (callSeg_post (pdats m) 1 _ _ _ _ _ _ (at2 m) _ c).trans (by rw [show afterRegion (pdats m 1 c) (at2 m c) = V3 m (outs m) c from after1_eq m c])

/-- Call 2 as a segment. -/
def seg_call2 : RegionSeg (pcfgs (F := F)) adm (pdats m) () defs₀ Variants.none waitable lev 2 :=
  callSeg (pdats m) 2 launch2.toP (fun c => (obligation2 (found (at4 m)) c).loose) (fun _ _ => rfl) (fun _ => rfl) (fun _ _ => ite_self _)
    (fun _ _ => rfl) (at4 m) (fun _ _ => rfl)

/-- Call 2 may be entered from the buffers as the run has them before it. -/
theorem seg_call2_pre (c : Dev nD) : iprop(StableHlo.held (c : Thread nD τ) (Pipeline.ucRefs τ sig) (at4 m c) ∗ rest c) ⊢ (seg_call2 m).pre c :=
  callSeg_pre (pdats m) 2 _ _ _ _ _ _ (at4 m) _ c

/-- Call 2 leaves the buffers as the run has them after it. -/
theorem seg_call2_post (c : Dev nD) : (seg_call2 m).post c ⊢ iprop(StableHlo.held (c : Thread nD τ) (Pipeline.ucRefs τ sig) (V5 m (outs m) c) ∗ rest c) :=
  (callSeg_post (pdats m) 2 _ _ _ _ _ _ (at4 m) _ c).trans (by rw [show afterRegion (pdats m 2 c) (at4 m c) = V5 m (outs m) c from after2_eq m c])

/-- Call 3 as a segment. -/
def seg_call3 : RegionSeg (pcfgs (F := F)) adm (pdats m) () defs₀ Variants.none waitable lev 3 :=
  callSeg (pdats m) 3 launch3.toP (fun c => (obligation3 (found (at6 m)) c).loose) (fun _ _ => rfl) (fun _ => rfl) (fun _ _ => ite_self _)
    (fun _ _ => rfl) (at6 m) (fun _ _ => rfl)

/-- Call 3 may be entered from the buffers as the run has them before it. -/
theorem seg_call3_pre (c : Dev nD) : iprop(StableHlo.held (c : Thread nD τ) (Pipeline.ucRefs τ sig) (at6 m c) ∗ rest c) ⊢ (seg_call3 m).pre c :=
  callSeg_pre (pdats m) 3 _ _ _ _ _ _ (at6 m) _ c

/-- Call 3 leaves the buffers as the run has them after it. -/
theorem seg_call3_post (c : Dev nD) : (seg_call3 m).post c ⊢ iprop(StableHlo.held (c : Thread nD τ) (Pipeline.ucRefs τ sig) (V7 m (outs m) c) ∗ rest c) :=
  (callSeg_post (pdats m) 3 _ _ _ _ _ _ (at6 m) _ c).trans (by rw [show afterRegion (pdats m 3 c) (at6 m c) = V7 m (outs m) c from after3_eq m c])

/-! ## The run -/

-- the run rule's implicit arguments are found by unifying its conclusion with the statement's, in types it must unfold
set_option backward.isDefEq.respectTransparency.types false in
/-- From any memory with zero counters every weakly fair execution ends, the result buffer holding the last valuation's
    value, the arguments what they held at launch, every counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v18) = V8 m (outs m) c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm (pdats m) () cellOf_inj emb₁ defs₀ Variants.none waitable lev m ρ main
    (segs m (outs m) Variants.none waitable lev (fun _ => rest) () (pdats m) (seg_call0 m) (seg_call1 m) (seg_call2 m) (seg_call3 m))
    (fun c Q => by
      rewrite [main_chain c, Seg.run_eq_chain,
        show (segs m (outs m) Variants.none waitable lev (fun _ => rest) () (pdats m) (seg_call0 m) (seg_call1 m) (seg_call2 m) (seg_call3 m) c).map Seg.prog = [
          StableHlo.seq hostOps0, Prog.lift (.customCall (Pipeline.entry 0) ()), Prog.lift (.customCall (Pipeline.entry 1) ()),
          StableHlo.seq hostOps2, Prog.lift (.customCall (Pipeline.entry 2) ()), StableHlo.seq hostOps3,
          Prog.lift (.customCall (Pipeline.entry 3) ()), StableHlo.seq hostOps4] from rfl]
      dsimp (config := { failIfUnchanged := false }) only
      exact .rfl)
    (fun c => by simp only [segs, Seg.pipes_host, Seg.pipes_region, Seg.pipes_nil]; decide) (O₀ := 0)
    (hL := fun g hg => if_neg hg) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (V0 m c) ∗ rest c))
    (Tₙ := fun c => StableHlo.held (c : Thread nD τ) (Pipeline.ucRefs τ sig) (V8 m (outs m) c))
    (hch := fun c => ⟨.rfl, seg_call0_pre m c, (seg_call0_post m c).trans (seg_call1_pre m c), seg_call1_post m c, seg_call2_pre m c,
      seg_call2_post m c, seg_call3_pre m c, seg_call3_post m c, sep_mono .rfl ?hend⟩)
    (hinit := ?hinit)
    (QY := fun c s => s.mem ((c.tc : Thread nD τ).loc main_v18) = V8 m (outs m) c (Proc.devRef .tc main_v18)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?hfin) (hQ := fun _ h hz => ⟨h, funext fun g => hz g (.inr (regions_no_unscoped g.2))⟩)
  case hu =>
    iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hend =>
    iintro ⟨Ho, -, -⟩; iexact Ho
  case hinit =>
    refine Pipeline.initEach waitable lev fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists _; iexact HO
    isplitl [Hp]; · iexists _; iexact Hp
    iempintro
  case hfin =>
    unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      have hr : ∀ r : Ref sig .tc, Proc.devRef .tc r ∈ Pipeline.ucRefs τ sig → s'.mem.mem ((c.tc : Thread nD τ).loc r) = V8 m (outs m) c (Proc.devRef .tc r) :=
        fun r hr => h _ hr
      exact ⟨hr main_v18 (by decide), (hr main_arg0 (by decide)).trans (V8_main_arg0 m (outs m) c), (hr main_arg1 (by decide)).trans (V8_main_arg1 m (outs m) c), (hr main_arg2 (by decide)).trans (V8_main_arg2 m (outs m) c), (hr main_arg3 (by decide)).trans (V8_main_arg3 m (outs m) c), (hr main_arg4 (by decide)).trans (V8_main_arg4 m (outs m) c), (hr main_arg5 (by decide)).trans (V8_main_arg5 m (outs m) c), (hr main_arg6 (by decide)).trans (V8_main_arg6 m (outs m) c)⟩
    · iexact HSI

end Cert.Proof

end
-- ==== Proof.Frames.lean ====
/-
  The frames: every program runs, leaves its arguments as they were and every semaphore counter at zero.

  The kernel's run is proved once, for any float values (`run_main`); it serves the program over machine floats and the
  program over extended reals alike. The reference is host operations alone and has no semaphore.
-/
module

public import proofs.«01_k».proof.Defs
public import proofs.«01_k».proof.Proof.Run
public import proofs.«01_k».proof.Proof.Gen.Kernel
public import proofs.«01_k».proof.Proof.Gen.ReferenceIdeal.Run
public import Idealize.ShloMosaic.Adequacy

@[expose] public section

noncomputable section

namespace Cert.Proof

open Idealize.ShloMosaic Idealize.SL.Sem

/-- The first call's body is the same text in both programs. -/
theorem body0_same : @Cert.Kernel.cc0__proj_q_kernel Bits _ _ = @Cert.KernelIdeal.cc0__proj_q_kernel Bits _ _ := rfl

/-- The second call's body is the same text in both programs. -/
theorem body1_same : @Cert.Kernel.cc1__proj_kv_kernel Bits _ _ = @Cert.KernelIdeal.cc1__proj_kv_kernel Bits _ _ := rfl

/-- The attention call's body is the same text in both programs. -/
theorem body2_same : @Cert.Kernel.cc2__attn_kernel Bits _ _ = @Cert.KernelIdeal.cc2__attn_kernel Bits _ _ := rfl

/-- The last call's body is the same text in both programs. -/
theorem body3_same : @Cert.Kernel.cc3__out_kernel Bits _ _ = @Cert.KernelIdeal.cc3__out_kernel Bits _ _ := rfl

set_option maxHeartbeats 1000000 in
/-- The two programs' tables of bodies are equal. -/
theorem defs₀_same : @Cert.Kernel.defs₀ Bits _ _ = @Cert.KernelIdeal.defs₀ Bits _ _ := by
  unfold Cert.Kernel.defs₀ Cert.KernelIdeal.defs₀
  rw [body0_same, body1_same, body2_same, body3_same]
  refine congrArg Defs.onTc ?_
  funext l a
  match l, a with
  | 0, (t, s) => rfl
  | 1, (t, s) => rfl
  | 2, (t, s) => rfl
  | 3, (t, s) => rfl

/-- The two programs' tables of calls are equal. -/
theorem defs_same : @Cert.Kernel.defs Bits _ _ = @Cert.KernelIdeal.defs Bits _ _ := by
  unfold Cert.Kernel.defs Cert.KernelIdeal.defs
  rw [← defs₀_same]
  rfl

/-- The two programs' host parts are equal. -/
theorem main_same : @Cert.Kernel.main Bits _ _ = @Cert.KernelIdeal.main Bits _ _ := rfl

/-- The kernel over machine floats. -/
theorem frame_kernel : Cert.quiescent_Kernel := fun m ρ _ => by
  rw [defs_same, main_same]
  exact (θ_run Cert.KernelIdeal.defs _ _).mono (fun r h => And.intro (fun c => (h.1 c).2) h.2) (run_main (F := Bits) m ρ)

/-- The kernel over extended reals. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference over extended reals. -/
theorem frame_referenceIdeal : Cert.quiescent_ReferenceIdeal := fun m ρ _ =>
  (θ_run Cert.ReferenceIdeal.defs _ _).mono
    (fun _ h => ⟨fun c => (h c).2, sem_eq_zero_of_no_sems rfl _⟩) (Cert.ReferenceIdeal.Value.run (F := Ideal) m ρ)

end Cert.Proof

end
-- ==== Proof.Select.lean ====
/-
  The 32 greatest entries of a row, and the two ways the kernel finds a threshold that separates them.

  `Top32 f σ` says that `σ` lists the 32 greatest entries of `f`, strictly descending. Every entry at or above a threshold
  is then one of them and conversely, if exactly 32 entries are at or above it (the fast path, accepted after counting),
  or if it is the last of 32 maxima taken one after the other (the exact extraction).
-/
module

public import Mathlib.Data.EReal.Basic
public import Mathlib.Data.EReal.Operations
public import Idealize.ShloMosaic.Lib.SortFacts

@[expose] public section

noncomputable section

namespace Cert.Proof

open Idealize.ShloMosaic

variable {n : ℕ}

/-- `σ` lists the 32 greatest entries of `f`: strictly descending, and every other entry is below the last. -/
structure Top32 (f : Fin n → EReal) (σ : Fin 32 → Fin n) : Prop where
  desc : ∀ a b : Fin 32, a < b → f (σ b) < f (σ a)
  rest : ∀ m, (∀ r, m ≠ σ r) → f m < f (σ 31)

/-- The listed entries' positions are different. -/
theorem Top32.inj {f : Fin n → EReal} {σ : Fin 32 → Fin n} (h : Top32 f σ) : Function.Injective σ := by
  intro a b e
  rcases lt_trichotomy a b with l | l | l
  · exact absurd (h.desc a b l) (by rw [e]; exact lt_irrefl _)
  · exact l
  · exact absurd (h.desc b a l) (by rw [e]; exact lt_irrefl _)

/-- Every listed entry is at least the last. -/
theorem Top32.last_le {f : Fin n → EReal} {σ : Fin 32 → Fin n} (h : Top32 f σ) (r : Fin 32) : f (σ 31) ≤ f (σ r) := by
  rcases lt_or_eq_of_le (show r ≤ (31 : Fin 32) by have := r.isLt; exact Fin.le_def.mpr (by show r.val ≤ 31; omega)) with l | l
  · exact (h.desc r 31 l).le
  · rw [l]

/-- Every listed entry is above minus infinity, when there are more than 32 entries. -/
theorem Top32.bot_lt {f : Fin n → EReal} {σ : Fin 32 → Fin n} (h : Top32 f σ) (h33 : 33 ≤ n) (r : Fin 32) : ⊥ < f (σ r) := by
  obtain ⟨m, hm⟩ : ∃ m, ∀ r, m ≠ σ r := by
    by_contra c
    have onto : Function.Surjective σ := fun m => by
      by_contra e
      exact c ⟨m, fun r l => e ⟨r, l.symm⟩⟩
    have := Fintype.card_le_of_surjective σ onto
    rw [Fintype.card_fin, Fintype.card_fin] at this
    omega
  exact lt_of_lt_of_le (lt_of_le_of_lt bot_le (h.rest m hm)) (h.last_le r)

/-- The 32 greatest entries stay so under a change of scale that keeps strict order. -/
theorem Top32.mono {f g : Fin n → EReal} {σ : Fin 32 → Fin n} (h : Top32 f σ) (hg : ∀ a b, f a < f b → g a < g b) : Top32 g σ where
  desc a b l := hg _ _ (h.desc a b l)
  rest m hm := hg _ _ (h.rest m hm)

/-- The positions a strict descending sort puts first, if its 33 first entries are strictly descending. -/
theorem top32_of_sort (f : Fin n → EReal) (B : Fin n → Fin n → Bool) (hB : ∀ a b, B a b = true ↔ f b < f a) (h33 : 33 ≤ n)
    (hs : ∀ r : ℕ, ∀ h : r < 32, f (sortedFrom B ⟨r + 1, by omega⟩) < f (sortedFrom B ⟨r, by omega⟩)) :
    Top32 f (fun r => sortedFrom B (r.castLE (by omega))) := by
  have hF : ∀ a b, B a b = false ↔ f a ≤ f b := fun a b => by rw [← Bool.not_eq_true, hB, not_lt]
  have anti : ∀ i j : Fin n, i ≤ j → f (sortedFrom B j) ≤ f (sortedFrom B i) := by
    intro i j hij
    rcases lt_or_eq_of_le hij with l | l
    · exact (hF _ _).mp (sortedFrom_noInversion B B
        (fun a b h => (hF _ _).mpr ((hB _ _).mp h).le) (fun _ _ h => h)
        (fun a b c h1 h2 => (hF _ _).mpr (((hF _ _).mp h1).trans ((hF _ _).mp h2))) i j l)
    · rw [l]
  have h31 : f (sortedFrom B ⟨32, by omega⟩) < f (sortedFrom B ⟨31, by omega⟩) := hs 31 (by omega)
  refine ⟨fun a b l => ?_, fun m hm => ?_⟩
  · have hb := b.isLt
    have ha : a.val < b.val := l
    exact lt_of_le_of_lt (anti ⟨a.val + 1, by omega⟩ ⟨b.val, by omega⟩ (Fin.le_def.mpr ha)) (hs a.val (by omega))
  · obtain ⟨k, rfl⟩ := sortedFrom_surjective B m
    have hk : 32 ≤ k.val := by
      by_contra hk
      exact hm ⟨k.val, by omega⟩ rfl
    exact lt_of_le_of_lt (anti ⟨32, by omega⟩ k (Fin.le_def.mpr hk)) h31

/-- `t` separates the listed entries from the others. -/
def Cuts (f : Fin n → EReal) (σ : Fin 32 → Fin n) (t : EReal) : Prop := ∀ m, t ≤ f m ↔ ∃ r, m = σ r

/-- A threshold that exactly 32 entries reach separates the 32 greatest. -/
theorem Top32.cuts_of_card {f : Fin n → EReal} {σ : Fin 32 → Fin n} (h : Top32 f σ) (t : EReal)
    (hc : (Finset.univ.filter fun m => t ≤ f m).card = 32) : Cuts f σ t := by
  have hT : (Finset.univ.image σ).card = 32 := by rw [Finset.card_image_of_injective _ h.inj, Finset.card_univ, Fintype.card_fin]
  have hsub : Finset.univ.image σ ⊆ Finset.univ.filter fun m => t ≤ f m := by
    intro m hm
    obtain ⟨r, -, rfl⟩ := Finset.mem_image.mp hm
    by_contra hlt
    have hlt : f (σ r) < t := by simpa using hlt
    have : (Finset.univ.filter fun m => t ≤ f m) ⊂ Finset.univ.image σ := by
      refine (Finset.ssubset_iff_of_subset ?_).mpr ⟨σ r, Finset.mem_image_of_mem _ (Finset.mem_univ _), by simpa using hlt⟩
      intro m' hm'
      have hm' : t ≤ f m' := by simpa using hm'
      by_contra hn
      refine absurd ((h.rest m' fun r' e => hn (e ▸ Finset.mem_image_of_mem _ (Finset.mem_univ _))).trans_le (h.last_le r)) ?_
      exact not_lt.mpr (hlt.le.trans hm')
    have := Finset.card_lt_card this
    omega
  have e := Finset.eq_of_subset_of_card_le hsub (by omega)
  intro m
  have : m ∈ Finset.univ.image σ ↔ m ∈ Finset.univ.filter fun m => t ≤ f m := by rw [e]
  simp only [Finset.mem_image, Finset.mem_univ, true_and, Finset.mem_filter] at this
  rw [← this]
  exact ⟨fun ⟨r, e⟩ => ⟨r, e.symm⟩, fun ⟨r, e⟩ => ⟨r, e.symm⟩⟩

/-- The last of the 32 greatest is such a threshold. -/
theorem Top32.cuts_last {f : Fin n → EReal} {σ : Fin 32 → Fin n} (h : Top32 f σ) : Cuts f σ (f (σ 31)) := by
  intro m
  refine ⟨fun hm => ?_, fun ⟨r, e⟩ => e ▸ h.last_le r⟩
  by_contra hn
  exact absurd (h.rest m fun r e => hn ⟨r, e⟩) (not_lt.mpr hm)

/-- The greatest entry of a row. -/
def rowMax (w : Fin n → EReal) : EReal := Finset.univ.fold max ⊥ w

/-- The greatest entry, of a row with one entry `m` that no other exceeds. -/
theorem rowMax_eq {w : Fin n → EReal} (m : Fin n) (h : ∀ m', w m' ≤ w m) : rowMax w = w m := by
  refine le_antisymm ?_ ?_
  · exact Finset.sup_le (f := w) fun m' _ => h m'
  · exact Finset.le_sup (f := w) (Finset.mem_univ m)

/-- One round of the exact extraction on a row: entries equal to the maximum are set to minus infinity. -/
def peelRow (w : Fin n → EReal) : Fin n → EReal := fun m => if w m = rowMax w then ⊥ else w m

/-- The row after `k` of the 32 rounds: the `k` greatest entries are at minus infinity, and the next maximum is the
    next greatest. -/
theorem Top32.peel {f : Fin n → EReal} {σ : Fin 32 → Fin n} (h : Top32 f σ) (k : ℕ) (hk : k ≤ 32) :
    (∀ m, (peelRow^[k] f) m = if ∃ r : Fin 32, r.val < k ∧ m = σ r then ⊥ else f m)
    ∧ ∀ hk' : k < 32, rowMax (peelRow^[k] f) = f (σ ⟨k, hk'⟩) := by
  have max_of : ∀ k : ℕ, ∀ hk' : k < 32, ∀ w : Fin n → EReal,
      (∀ m, w m = if ∃ r : Fin 32, r.val < k ∧ m = σ r then ⊥ else f m) → rowMax w = f (σ ⟨k, hk'⟩) := by
    intro k hk' w hw
    have hkm : w (σ ⟨k, hk'⟩) = f (σ ⟨k, hk'⟩) := by
      rw [hw, if_neg]
      rintro ⟨r, hr, e⟩
      rw [← h.inj e] at hr
      exact lt_irrefl _ hr
    rw [← hkm]
    refine rowMax_eq _ fun m' => ?_
    rw [hkm, hw]
    split
    · exact bot_le
    · rename_i hn
      by_cases hm : ∃ r, m' = σ r
      · obtain ⟨r, rfl⟩ := hm
        have hr : k ≤ r.val := by
          by_contra hlt
          exact hn ⟨r, by omega, rfl⟩
        rcases lt_or_eq_of_le hr with l | l
        · exact (h.desc ⟨k, hk'⟩ r l).le
        · rw [show r = ⟨k, hk'⟩ from Fin.ext l.symm]
      · exact ((h.rest m' fun r e => hm ⟨r, e⟩).le).trans (h.last_le _)
  induction k with
  | zero =>
    have h0 : ∀ m, (peelRow^[0] f) m = if ∃ r : Fin 32, r.val < 0 ∧ m = σ r then ⊥ else f m := by
      intro m
      rw [if_neg (by rintro ⟨r, hr, -⟩; exact absurd hr (Nat.not_lt_zero _))]
      rfl
    exact ⟨h0, fun hk' => max_of 0 hk' _ h0⟩
  | succ k ih =>
    obtain ⟨ih1, ih2⟩ := ih (by omega)
    have hmax := ih2 (by omega)
    have hstep : ∀ m, (peelRow^[k + 1] f) m = if ∃ r : Fin 32, r.val < k + 1 ∧ m = σ r then ⊥ else f m := by
      intro m
      rw [Function.iterate_succ_apply']
      show (if (peelRow^[k] f) m = rowMax (peelRow^[k] f) then ⊥ else (peelRow^[k] f) m) = _
      rw [hmax, ih1]
      by_cases hm : ∃ r : Fin 32, r.val < k ∧ m = σ r
      · obtain ⟨r, hr, rfl⟩ := hm
        rw [if_pos (⟨r, hr, rfl⟩ : ∃ r' : Fin 32, r'.val < k ∧ σ r = σ r'), ite_self, if_pos ⟨r, by omega, rfl⟩]
      · rw [if_neg hm]
        by_cases hk2 : m = σ ⟨k, by omega⟩
        · rw [if_pos (by rw [hk2]), if_pos ⟨⟨k, by omega⟩, Nat.lt_succ_self k, hk2⟩]
        · have hne : ¬∃ r : Fin 32, r.val < k + 1 ∧ m = σ r := by
            rintro ⟨r, hr, e⟩
            rcases Nat.lt_succ_iff_lt_or_eq.mp hr with l | l
            · exact hm ⟨r, l, e⟩
            · exact hk2 (by rw [e]; congr 1; exact Fin.ext l)
          rw [if_neg hne, if_neg]
          intro e
          by_cases hm2 : ∃ r, m = σ r
          · obtain ⟨r, rfl⟩ := hm2
            rcases lt_trichotomy r ⟨k, by omega⟩ with l | l | l
            · exact absurd e (h.desc _ _ l).ne'
            · exact hk2 (by rw [l])
            · exact absurd e (h.desc _ _ l).ne
          · exact absurd e ((h.rest m fun r e => hm2 ⟨r, e⟩).trans_le (h.last_le _)).ne
    exact ⟨hstep, fun hk' => max_of (k + 1) hk' _ hstep⟩

/-- A sum over a whole row of terms that vanish below a separating threshold is the sum over the listed entries. -/
theorem Cuts.sum_eq {f : Fin n → EReal} {σ : Fin 32 → Fin n} {t : EReal} (h : Cuts f σ t) (hi : Function.Injective σ)
    (g : Fin n → EReal) : (∑ m, if t ≤ f m then g m else 0) = ∑ r, g (σ r) := by
  rw [← Finset.sum_filter, ← Finset.sum_image (s := Finset.univ) (g := σ) (f := g) fun a _ b _ e => hi e]
  refine Finset.sum_congr ?_ fun _ _ => rfl
  ext m
  simp only [Finset.mem_filter, Finset.mem_univ, true_and, Finset.mem_image]
  exact (h m).trans ⟨fun ⟨r, e⟩ => ⟨r, e.symm⟩, fun ⟨r, e⟩ => ⟨r, e.symm⟩⟩

/-- A row's count of the entries that reach `t`, as a sum of ones, is 32 only if 32 entries do. -/
theorem card_of_count {f : Fin n → EReal} {t : EReal} (h : (∑ m, if t ≤ f m then (1 : EReal) else 0) = 32) :
    (Finset.univ.filter fun m => t ≤ f m).card = 32 := by
  rw [Finset.sum_boole] at h
  exact_mod_cast h

end Cert.Proof

end
-- ==== Proof.Mix.lean ====
/-
  One softmax over a query's 32 retrieved entries and its causal row, computed two ways: the kernel divides two sums of
  exponentials taken without a shift, the reference shifts by the row's maximum and divides each weight.
-/
module

public import proofs.«01_k».proof.Proof.Select
public import Idealize.ShloMosaic.PureOps.Ideal

@[expose] public section

noncomputable section

namespace Cert.Proof

open Idealize.ShloMosaic

/-- A value that is a real number, not an infinity. -/
def IsReal (x : EReal) : Prop := ∃ r : ℝ, x = (r : EReal)

/-- A value that is a positive real number. -/
def IsPos (x : EReal) : Prop := ∃ r : ℝ, 0 < r ∧ x = (r : EReal)

/-- A positive real is a real. -/
theorem IsPos.real {x : EReal} (h : IsPos x) : IsReal x := let ⟨r, _, e⟩ := h; ⟨r, e⟩

/-- A value whose absolute value is below infinity is a real. -/
theorem isReal_of_abs {x : EReal} (h : max x (-x) < ⊤) : IsReal x := by
  induction x with
  | bot => simp at h
  | top => simp at h
  | coe r => exact ⟨r, rfl⟩

/-- The product of two reals is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is one. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- The sum of reals, as extended reals. -/
theorem sum_coe {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The exponential of a real is a positive real. -/
theorem IsReal.exp {x : EReal} (h : IsReal x) : IsPos (Ideal.exp x) := by
  obtain ⟨r, rfl⟩ := h
  exact ⟨Real.exp r, Real.exp_pos r, rfl⟩

/-- A positive real multiplies a finite sum term by term, whatever the terms. -/
theorem sum_mul_pos {ι : Type} (s : Finset ι) (f : ι → EReal) {c : EReal} (hc : IsPos c) :
    (∑ i ∈ s, f i) * c = ∑ i ∈ s, f i * c := by
  classical
  obtain ⟨r, hr, rfl⟩ := hc
  induction s using Finset.induction_on with
  | empty => simp
  | insert a s ha ih =>
    rw [Finset.sum_insert ha, Finset.sum_insert ha,
      EReal.right_distrib_of_nonneg_of_ne_top (by exact_mod_cast hr.le) (EReal.coe_ne_top r), ih]

/-- Division by a positive real is multiplication by its inverse, a positive real. -/
theorem div_pos_eq (x : EReal) {y : EReal} (hy : IsPos y) : Ideal.div x y = x * y⁻¹ ∧ IsPos y⁻¹ := by
  obtain ⟨r, hr, rfl⟩ := hy
  refine ⟨?_, r⁻¹, inv_pos.mpr hr, (EReal.coe_inv r).symm⟩
  unfold Ideal.div
  rw [if_neg]
  exact_mod_cast hr.ne'

/-- A row of scores, each a real or minus infinity, with at least one real. -/
structure Scores {n : ℕ} (w : Fin n → EReal) : Prop where
  each : ∀ k, w k = ⊥ ∨ IsReal (w k)
  some : ∃ k, IsReal (w k)

/-- The greatest of a row of scores is a real. -/
theorem Scores.max_real {n : ℕ} {w : Fin n → EReal} (h : Scores w) : IsReal (rowMax w) := by
  obtain ⟨k, r, hr⟩ := h.some
  obtain ⟨m, -, hm⟩ := Finset.exists_mem_eq_sup Finset.univ ⟨k, Finset.mem_univ k⟩ w
  have hm : rowMax w = w m := hm
  rcases h.each m with e | e
  · have : w k ≤ rowMax w := Finset.le_sup (f := w) (Finset.mem_univ k)
    rw [hm, e, hr] at this
    exact absurd this (by simp)
  · rwa [hm]

/-- The sum of a row's exponentials is a positive real. -/
theorem Scores.sum_pos {n : ℕ} {w : Fin n → EReal} (h : Scores w) : IsPos (∑ k, Ideal.exp (w k)) := by
  have each : ∀ k, ∃ r : ℝ, 0 ≤ r ∧ Ideal.exp (w k) = r := by
    intro k
    rcases h.each k with e | e
    · exact ⟨0, le_rfl, by rw [e]; rfl⟩
    · obtain ⟨r, hr, e⟩ := e.exp
      exact ⟨r, hr.le, e⟩
  choose g hg0 hg using each
  obtain ⟨k, hk⟩ := h.some
  obtain ⟨r, hr, e⟩ := hk.exp
  refine ⟨∑ k, g k, ?_, by rw [← sum_coe]; exact Finset.sum_congr rfl fun k _ => hg k⟩
  refine Finset.sum_pos' (fun k _ => hg0 k) ⟨k, Finset.mem_univ k, ?_⟩
  have : g k = r := by exact_mod_cast (hg k).symm.trans e
  rw [this]; exact hr

/-- The exponential of a shifted score is the exponential of the score, scaled. -/
theorem exp_shift {s M : EReal} (hs : s = ⊥ ∨ IsReal s) (hM : IsReal M) :
    Ideal.exp (s - M) = Ideal.exp s * Ideal.exp (-M) := by
  obtain ⟨b, rfl⟩ := hM
  rcases hs with rfl | ⟨a, rfl⟩
  · rw [EReal.bot_sub]
    show (0 : EReal) = 0 * _
    rw [zero_mul]
  · rw [← EReal.coe_sub, ← EReal.coe_neg]
    show ((Real.exp (a - b) : ℝ) : EReal) = (Real.exp a : EReal) * (Real.exp (-b) : EReal)
    rw [← EReal.coe_mul, ← Real.exp_add, sub_eq_add_neg]

/-- A softmax weight, shifted by the row's maximum, without the shift. -/
theorem Scores.weight {n : ℕ} {w : Fin n → EReal} (h : Scores w) {M : EReal} (hM : IsReal M) (k : Fin n) :
    Ideal.div (Ideal.exp (w k - M)) (∑ j, Ideal.exp (w j - M)) = Ideal.exp (w k) * (∑ j, Ideal.exp (w j))⁻¹ := by
  have hE : IsPos (Ideal.exp (-M)) := by
    obtain ⟨b, rfl⟩ := hM
    exact IsReal.exp ⟨-b, rfl⟩
  have e : (∑ j, Ideal.exp (w j - M)) = (∑ j, Ideal.exp (w j)) * Ideal.exp (-M) := by
    rw [sum_mul_pos _ _ hE]
    exact Finset.sum_congr rfl fun j _ => exp_shift (h.each j) hM
  rw [e, exp_shift (h.each k) hM]
  obtain ⟨z, hz, ez⟩ := h.sum_pos
  obtain ⟨b, hb, eb⟩ := hE
  rw [ez, eb, ← EReal.coe_mul, (div_pos_eq _ ⟨z * b, mul_pos hz hb, rfl⟩).1, ← EReal.coe_inv, ← EReal.coe_inv, mul_assoc,
    ← EReal.coe_mul]
  congr 2
  field_simp

/-- The kernel's value of one output entry: masked exponentials of the scores `lm` of the stored rows and of the causal
    scores `sl`, against a column of stored values and a column of the sequence's values, the sums divided once. -/
def rowK (lm : Fin 8192 → EReal) (t : EReal) (dv : Fin 8192 → EReal) (sl : Fin 2048 → EReal) (r : Fin 2048)
    (v : Fin 2048 → EReal) : EReal :=
  Ideal.div ((∑ m, (if t ≤ lm m then Ideal.exp (lm m) else 0) * dv m) + ∑ j, (if j ≤ r then Ideal.exp (sl j) else 0) * v j)
    ((∑ m, (if t ≤ lm m then Ideal.exp (lm m) else 0)) + ∑ j, (if j ≤ r then Ideal.exp (sl j) else 0))

/-- The reference's row of scores: the 32 retrieved, then the causal row with later positions at minus infinity. -/
def rowW (sm : Fin 32 → EReal) (sl : Fin 2048 → EReal) (r : Fin 2048) : Fin (32 + 2048) → EReal :=
  Fin.append sm fun j => if j ≤ r then sl j else ⊥

/-- A softmax weight as the reference takes it. -/
def weightR {n : ℕ} (w : Fin n → EReal) (k : Fin n) : EReal :=
  Ideal.div (Ideal.exp (w k - rowMax w)) (∑ j, Ideal.exp (w j - rowMax w))

/-- The reference's value of one output entry. -/
def rowR (sm : Fin 32 → EReal) (dv : Fin 32 → EReal) (sl : Fin 2048 → EReal) (r : Fin 2048) (v : Fin 2048 → EReal) : EReal :=
  (∑ j, weightR (rowW sm sl r) (Fin.natAdd 32 j) * v j) + ∑ k, weightR (rowW sm sl r) (Fin.castAdd 2048 k) * dv k

/-- The two values of one output entry agree, when the threshold separates the 32 retrieved entries and these are real. -/
theorem rowK_eq_rowR (lm : Fin 8192 → EReal) (σ : Fin 32 → Fin 8192) (hlm : ∀ k, IsReal (lm (σ k))) (hσ : Function.Injective σ)
    (t : EReal) (hc : Cuts lm σ t) (dv : Fin 8192 → EReal) (sl : Fin 2048 → EReal) (hsl : ∀ j, IsReal (sl j)) (r : Fin 2048)
    (v : Fin 2048 → EReal) :
    rowK lm t dv sl r v = rowR (fun k => lm (σ k)) (fun k => dv (σ k)) sl r v := by
  have wl : ∀ k, rowW (fun k => lm (σ k)) sl r (Fin.castAdd 2048 k) = lm (σ k) := fun k => Fin.append_left _ _ k
  have wr : ∀ j, rowW (fun k => lm (σ k)) sl r (Fin.natAdd 32 j) = if j ≤ r then sl j else ⊥ := fun j => Fin.append_right _ _ j
  have hw : Scores (rowW (fun k => lm (σ k)) sl r) := by
    refine ⟨fun k => ?_, Fin.castAdd 2048 0, ?_⟩
    · refine Fin.addCases (fun k => ?_) (fun j => ?_) k
      · rw [wl]; exact Or.inr (hlm _)
      · rw [wr]; split
        · exact Or.inr (hsl _)
        · exact Or.inl rfl
    · rw [wl]; exact hlm _
  have er : ∀ j, Ideal.exp (rowW (fun k => lm (σ k)) sl r (Fin.natAdd 32 j)) = if j ≤ r then Ideal.exp (sl j) else 0 := by
    intro j
    rw [wr]
    split <;> rfl
  have hZ : (∑ m, (if t ≤ lm m then Ideal.exp (lm m) else 0)) + (∑ j, (if j ≤ r then Ideal.exp (sl j) else 0))
      = ∑ k, Ideal.exp (rowW (fun k => lm (σ k)) sl r k) := by
    rw [hc.sum_eq hσ, Fin.sum_univ_add]
    exact congrArg₂ (· + ·) (Finset.sum_congr rfl fun k _ => by rw [wl]) (Finset.sum_congr rfl fun j _ => (er j).symm)
  have hN : (∑ m, (if t ≤ lm m then Ideal.exp (lm m) else 0) * dv m) = ∑ k, Ideal.exp (lm (σ k)) * dv (σ k) := by
    rw [← hc.sum_eq hσ fun m => Ideal.exp (lm m) * dv m]
    refine Finset.sum_congr rfl fun m _ => ?_
    split
    · rfl
    · exact zero_mul _
  unfold rowK rowR weightR
  rw [hZ, hN, (div_pos_eq _ hw.sum_pos).1]
  obtain ⟨z, hz, ez⟩ := (div_pos_eq 0 hw.sum_pos).2
  simp only [hw.weight hw.max_real]
  rw [EReal.right_distrib_of_nonneg_of_ne_top (by rw [ez]; exact_mod_cast hz.le) (by rw [ez]; exact EReal.coe_ne_top z),
    sum_mul_pos _ _ ⟨z, hz, ez⟩, sum_mul_pos _ _ ⟨z, hz, ez⟩, add_comm]
  refine congrArg₂ (· + ·) (Finset.sum_congr rfl fun j _ => ?_) (Finset.sum_congr rfl fun k _ => ?_)
  · rw [er, mul_right_comm]
  · rw [wl, mul_right_comm]

/-- A row divided by its length, the length kept away from zero by `ε`. -/
def unitRow (ε : EReal) (v : Fin 64 → EReal) : Fin 64 → EReal :=
  fun d => Ideal.div (v d) (max (Ideal.sqrt (∑ e, v e * v e)) ε)

/-- A product with itself is not negative. -/
theorem self_mul_nonneg (x : EReal) : 0 ≤ x * x := by
  induction x with
  | bot => simp
  | top => simp
  | coe r => rw [← EReal.coe_mul]; exact_mod_cast mul_self_nonneg r

/-- A row with an infinite entry has infinite length. -/
theorem sum_sq_top {v : Fin 64 → EReal} {d : Fin 64} (h : ¬ IsReal (v d)) : ∑ e, v e * v e = ⊤ := by
  have e : v d * v d = ⊤ := by
    generalize v d = x at h
    induction x with
    | bot => simp
    | top => simp
    | coe r => exact absurd ⟨r, rfl⟩ h
  exact top_le_iff.mp (e ▸ Finset.single_le_sum (f := fun e => v e * v e) (fun i _ => self_mul_nonneg (v i)) (Finset.mem_univ d))

/-- A unit row is real, whatever the row: one with an infinite entry has infinite length, and its quotients are zero. -/
theorem unitRow_real {ε : EReal} (hε : IsPos ε) (v : Fin 64 → EReal) (d : Fin 64) : IsReal (unitRow ε v d) := by
  by_cases hv : ∀ d, IsReal (v d)
  swap
  · obtain ⟨e, he⟩ := not_forall.mp hv
    refine ⟨0, ?_⟩
    unfold unitRow
    rw [sum_sq_top he]
    show Ideal.div (v d) (max ⊤ ε) = _
    rw [max_eq_left le_top]
    unfold Ideal.div
    rw [if_neg EReal.top_ne_zero, EReal.inv_top, mul_zero]
    rfl
  have hd : IsPos (max (Ideal.sqrt (∑ e, v e * v e)) ε) := by
    obtain ⟨s, hs⟩ := isReal_sum Finset.univ (fun e => v e * v e) fun e => (hv e).mul (hv e)
    obtain ⟨b, hb, rfl⟩ := hε
    rw [hs]
    show IsPos (max (if s < 0 then ⊥ else (Real.sqrt s : EReal)) b)
    split
    · exact ⟨b, hb, max_eq_right bot_le⟩
    · refine ⟨max (Real.sqrt s) b, lt_max_of_lt_right hb, ?_⟩
      exact (EReal.coe_strictMono.monotone.map_max).symm
  unfold unitRow
  rw [(div_pos_eq _ hd).1]
  exact (hv d).mul (div_pos_eq (v d) hd).2.real

/-- Scaling a row before the products, or their sum after. -/
theorem scaled_dot {n : ℕ} (a b : Fin n → EReal) {c : EReal} (hc : IsPos c) : (∑ d, a d * c * b d) = (∑ d, a d * b d) * c := by
  rw [sum_mul_pos _ _ hc]
  exact Finset.sum_congr rfl fun d _ => mul_right_comm _ _ _

/-- Multiplication by a positive real keeps strict order. -/
theorem mul_pos_lt {a b c : EReal} (hc : IsPos c) (hab : a < b) : a * c < b * c := by
  obtain ⟨r, hr, rfl⟩ := hc
  have back : ∀ x : EReal, x * (r : EReal) * ((r⁻¹ : ℝ) : EReal) = x := fun x => by
    rw [mul_assoc, ← EReal.coe_mul, mul_inv_cancel₀ hr.ne', EReal.coe_one, mul_one]
  refine lt_of_le_of_ne (mul_le_mul_of_nonneg_right hab.le (by exact_mod_cast hr.le)) fun e => hab.ne ?_
  rw [← back a, e, back b]

end Cert.Proof

end
-- ==== Proof.KernelValue.lean ====
/-
  What the four kernels' bodies compute, read at an entry: the projections as normalised rows, the attention block as the
  row formula with a threshold that separates the 32 greatest scores, the output projection as a product added up.
-/
module

public import proofs.«01_k».proof.Proof.Bodies
public import proofs.«01_k».proof.Proof.Mix
public import Idealize.ShloMosaic.Lib.Pointwise
public import Idealize.ShloMosaic.Lib.IdealHost

@[expose] public section

noncomputable section

namespace Cert.Proof

open Cert.KernelIdeal Cert.KernelIdeal.Gen
open Idealize.ShloMosaic

/-- The small constant that keeps a row's length away from zero, `1e-12` rounded to `f32`. -/
abbrev eps : EReal := Ideal.ofBits .f32 0x2B8CBCCC#32

/-- The word for minus infinity. -/
theorem ofBits_bot : Ideal.ofBits .f32 0xFF800000#32 = ⊥ := by simp [Ideal.ofBits, Ideal.ieee]

/-- The word for 32. -/
theorem ofBits_count : Ideal.ofBits .f32 0x42000000#32 = 32 := by
  simp [Ideal.ofBits, Ideal.ieee, -EReal.coe_mul]
  norm_num
  rfl

/-- The small constant is a positive real. -/
theorem eps_pos : IsPos eps := by
  refine ⟨_, ?_, by simp [Ideal.ofBits, Ideal.ieee, -EReal.coe_mul]; rfl⟩
  norm_num

/-- The first head's columns of two heads' product, normalised. -/
theorem k0_pay2_at (x : Vec Ideal S2048x1024 .f32) (w : Vec Ideal S1024x128 .f32) (r : Fin 2048) (d : Fin 64) :
    k0_pay2 x w (ix3 0 r d) = unitRow eps (fun d => ∑ k : Fin 1024, x (ix2 r k) * w (ix2 k ⟨d.val, by omega⟩)) d := by
  unfold unitRow
  pointwise [k0_pay2, k0_pay1]

/-- The second head's. -/
theorem k0_pay3_at (x : Vec Ideal S2048x1024 .f32) (w : Vec Ideal S1024x128 .f32) (r : Fin 2048) (d : Fin 64) :
    k0_pay3 x w (ix3 0 r d) = unitRow eps (fun d => ∑ k : Fin 1024, x (ix2 r k) * w (ix2 k ⟨64 + d.val, by omega⟩)) d := by
  unfold unitRow
  pointwise [k0_pay3, k0_pay1]

/-- The keys, normalised. -/
theorem k1_pay2_at (x : Vec Ideal S2048x1024 .f32) (w : Vec Ideal S1024x128 .f32) (r : Fin 2048) (d : Fin 64) :
    k1_pay2 x w (ix2 r d) = unitRow eps (fun d => ∑ k : Fin 1024, x (ix2 r k) * w (ix2 k ⟨d.val, by omega⟩)) d := by
  unfold unitRow
  pointwise [k1_pay2, k1_pay1]

/-- The values. -/
theorem k1_pay3_at (x : Vec Ideal S2048x1024 .f32) (w : Vec Ideal S1024x128 .f32) (r : Fin 2048) (d : Fin 64) :
    k1_pay3 x w (ix2 r d) = ∑ k : Fin 1024, x (ix2 r k) * w (ix2 k ⟨64 + d.val, by omega⟩) := by
  pointwise [k1_pay3, k1_pay1]

/-- One round of the exact extraction, at a row's maximum. -/
theorem k2_pay331_at (s : FVec Ideal S256x8192 .f32) (r : Fin 256) (z : Fin 1) :
    k2_pay331 s (ix2 r z) = rowMax fun m : Fin 8192 => s (ix2 r m) := by
  unfold rowMax
  pointwise [k2_pay331]
  rw [ofBits_bot]

/-- One round of the exact extraction, at an entry. -/
theorem k2_pay332_at (s : FVec Ideal S256x8192 .f32) (r : Fin 256) (m : Fin 8192) :
    k2_pay332 s (ix2 r m) = peelRow (fun m : Fin 8192 => s (ix2 r m)) m := by
  unfold peelRow rowMax
  pointwise [k2_pay332, k2_pay331]
  rw [ofBits_bot]

/-- The scaled queries. -/
theorem k2_pay2_at (sc : Vec Ideal S1x1x1 .f32) (q : Vec Ideal S1x256x64 .f32) (r : Fin 256) (d : Fin 64) :
    k2_pay2 sc q (ix2 r d) = q (ix3 0 r d) * Ideal.exp (sc (ix3 0 0 0)) := by
  pointwise [k2_pay2]
  rfl

/-- The scores of the stored rows. -/
theorem k2_pay3_at (sc : Vec Ideal S1x1x1 .f32) (q : Vec Ideal S1x256x64 .f32) (dk : Vec Ideal S8192x64 .f32) (r : Fin 256) (m : Fin 8192) :
    k2_pay3 sc q dk (ix2 r m) = ∑ d : Fin 64, q (ix3 0 r d) * Ideal.exp (sc (ix3 0 0 0)) * dk (ix2 m d) := by
  pointwise [k2_pay3, k2_pay2]
  rfl

/-- The causal scores. -/
theorem k2_pay336_at (sc : Vec Ideal S1x1x1 .f32) (q : Vec Ideal S1x256x64 .f32) (k : Vec Ideal S2048x64 .f32) (r : Fin 256) (m : Fin 2048) :
    k2_pay336 (k2_pay2 sc q) k (ix2 r m) = ∑ d : Fin 64, q (ix3 0 r d) * Ideal.exp (sc (ix3 0 0 0)) * k (ix2 m d) := by
  pointwise [k2_pay336, k2_pay2]
  rfl

/-- Every term is at most the maximum of all. -/
theorem le_fold_max {ι : Type} [Fintype ι] (f : ι → EReal) (i : ι) : f i ≤ Finset.univ.fold max ⊥ f :=
  Finset.le_sup (f := f) (Finset.mem_univ i)

/-- The condition's words, from a positive value. -/
theorem cond_of_pos (y : Ideal .f32) (h : (0 : EReal) < y) :
    Scalar.cmpi .ne (Scalar.extui (Scalar.cmpf .ogt y (Scalar.ofBits .f32 0x00000000#32))) 0#32 = 1#1 := by
  have e : (Scalar.cmpf .ogt y (Scalar.ofBits .f32 0x00000000#32) : BitVec 1) = BitVec.ofBool (decide (Ideal.ofBits .f32 0x00000000#32 < y)) := rfl
  rw [e, Ideal.ofBits_zero_f32, decide_eq_true h]
  decide

/-- The maximum over all rows of "this row's count is not 32", as a zero or a one. -/
theorem k2_pay329_at (s : FVec Ideal S256x8192 .f32) (a b : FVec Ideal S256x256 .f32) (r : Fin 256)
    (h : (∑ m : Fin 8192, if k2_pay328 a b (ix2 r 0) ≤ s (ix2 r m) then (1 : EReal) else 0) ≠ 32) :
    1 ≤ k2_pay329 s a b := by
  pointwise [k2_pay329]
  rw [ofBits_bot, ofBits_count]
  refine le_trans ?_ (le_fold_max _ (r, 0))
  exact (if_pos h).ge

/-- Some row's count is not 32: the exact extraction is taken. -/
theorem attnCond_of_count (s : FVec Ideal S256x8192 .f32) (a b : FVec Ideal S256x256 .f32) (r : Fin 256)
    (h : (∑ m : Fin 8192, if k2_pay328 a b (ix2 r 0) ≤ s (ix2 r m) then (1 : EReal) else 0) ≠ 32) : attnCond s a b = 1#1 :=
  cond_of_pos _ (lt_of_lt_of_le zero_lt_one (k2_pay329_at s a b r h))

/-- The rows after `k` rounds of the exact extraction, each row by itself. -/
theorem peel_rows (s : FVec Ideal S256x8192 .f32) (z : FVec Ideal S256x1 .f32) (r : Fin 256) (k : ℕ) :
    (fun m : Fin 8192 => (peel^[k] (s, z)).1 (ix2 r m)) = peelRow^[k] fun m : Fin 8192 => s (ix2 r m) := by
  induction k with
  | zero => rfl
  | succ k ih =>
    rw [Function.iterate_succ_apply', Function.iterate_succ_apply', ← ih]
    funext m
    exact k2_pay332_at _ r m

/-- What round `k + 1` takes out of a row is the greatest entry that `k` rounds leave. -/
theorem peel_last (s : FVec Ideal S256x8192 .f32) (z : FVec Ideal S256x1 .f32) (r : Fin 256) (k : ℕ) :
    (peel^[k + 1] (s, z)).2 (ix2 r 0) = rowMax (peelRow^[k] fun m : Fin 8192 => s (ix2 r m)) := by
  rw [Function.iterate_succ_apply', ← peel_rows s z r k]
  generalize peel^[k] (s, z) = p
  unfold peel
  dsimp only
  exact k2_pay331_at p.1 r 0

/-- Whichever way the kernel finds it, its threshold separates each row's 32 greatest scores from the others. -/
theorem attnThr_cuts (s : FVec Ideal S256x8192 .f32) (a b : FVec Ideal S256x256 .f32) (r : Fin 256) (σ : Fin 32 → Fin 8192)
    (hσ : Top32 (fun m : Fin 8192 => s (ix2 r m)) σ) :
    Cuts (fun m : Fin 8192 => s (ix2 r m)) σ (attnThr s a b (ix2 r 0)) := by
  unfold attnThr
  split
  · have e : (Scf.fold (n := k2_t1_loop.trips) (fun _ p => peel p) (s, k2_pay330 (F := Ideal))).2 (ix2 r 0)
        = (fun m : Fin 8192 => s (ix2 r m)) (σ 31) := by
      rw [Scf.fold_eq, List.foldl_const, List.length_finRange, show k2_t1_loop.trips = 31 + 1 from rfl]
      rw [peel_last]
      exact (hσ.peel 31 (by omega)).2 (by omega)
    rw [e]
    exact hσ.cuts_last
  · rename_i hc
    refine hσ.cuts_of_card _ (card_of_count ?_)
    by_contra h
    exact hc (attnCond_of_count s a b r h)

/-- A column of the product with the stored values. -/
theorem k2_pay333_at (s : FVec Ideal S256x8192 .f32) (t : FVec Ideal S256x1 .f32) (dv : Vec Ideal S8192x65 .bf16) (r : Fin 256)
    (d : Fin 65) :
    k2_pay333 s t dv (ix2 r d)
      = ∑ m : Fin 8192, (if t (ix2 r 0) ≤ s (ix2 r m) then Ideal.exp (s (ix2 r m)) else 0) * dv (ix2 m d) := by
  pointwise [k2_pay333]

/-- The scores of the stored rows, from a block of queries. -/
def memScore (sc : Vec Ideal S1x1x1 .f32) (q : Vec Ideal S1x256x64 .f32) (dk : Vec Ideal S8192x64 .f32) (r : Fin 256)
    (m : Fin 8192) : EReal := ∑ d : Fin 64, q (ix3 0 r d) * Ideal.exp (sc (ix3 0 0 0)) * dk (ix2 m d)

/-- The causal scores, from a block of queries. -/
def locScore (sc : Vec Ideal S1x1x1 .f32) (q : Vec Ideal S1x256x64 .f32) (k : Vec Ideal S2048x64 .f32) (r : Fin 256)
    (j : Fin 2048) : EReal := ∑ d : Fin 64, q (ix3 0 r d) * Ideal.exp (sc (ix3 0 0 0)) * k (ix2 j d)

/-- The causal mask of a block, at an entry. -/
theorem causal_at (g : Fin 8) (r : Fin 256) (j : Fin 2048) {α : Type} (x y : α) :
    Scalar.select (IntOp.cmpi CmpIPredicate.sle (BitVec.ofNat 32 j.val)
      (IntOp.addi (Scalar.muli (BitVec.ofNat 32 g.val) 256#32) (BitVec.ofNat 32 r.val))) x y
      = if j ≤ (⟨256 * g.val + r.val, by omega⟩ : Fin 2048) then x else y := by
  have e : IntOp.addi (Scalar.muli (BitVec.ofNat 32 g.val) 256#32) (BitVec.ofNat 32 r.val) = BitVec.ofNat 32 (256 * g.val + r.val) := by
    apply BitVec.eq_of_toNat_eq
    show (BitVec.ofNat 32 g.val * 256#32 + BitVec.ofNat 32 r.val).toNat = _
    simp only [BitVec.toNat_add, BitVec.toNat_mul, BitVec.toNat_ofNat]
    omega
  rw [e, WordCmp.cmpi_sle_ofNat (by omega) (by omega)]
  unfold Scalar.select
  by_cases h : j.val ≤ 256 * g.val + r.val
  · rw [if_pos (show j ≤ (⟨256 * g.val + r.val, by omega⟩ : Fin 2048) from h), decide_eq_true h]; rfl
  · rw [if_neg (show ¬j ≤ (⟨256 * g.val + r.val, by omega⟩ : Fin 2048) from h), decide_eq_false h]; rfl

/-- An entry of the attention block, from the two sums over the stored rows. -/
theorem k2_pay1_at (g : Fin 8) (n : FVec Ideal S256x64 .f32) (z : FVec Ideal S256x1 .f32) (l : FVec Ideal S256x2048 .f32)
    (v : Vec Ideal S2048x65 .bf16) (r : Fin 256) (d : Fin 64) :
    k2_pay1 (BitVec.ofNat 32 g.val) n z l 256#32 v (ix3 0 r d)
      = Ideal.div
        (n (ix2 r d) + ∑ j : Fin 2048, (if j ≤ (⟨256 * g.val + r.val, by omega⟩ : Fin 2048) then Ideal.exp (l (ix2 r j)) else 0)
          * v (ix2 j ⟨d.val, by omega⟩))
        (z (ix2 r 0) + ∑ j : Fin 2048, (if j ≤ (⟨256 * g.val + r.val, by omega⟩ : Fin 2048) then Ideal.exp (l (ix2 r j)) else 0)
          * v (ix2 j 64)) := by
  pointwise [k2_pay1]
  simp only [causal_at, ite_mul, zero_mul]

/-- An entry of the attention block is the kernel's row formula, its threshold one that separates the row's 32 greatest
    scores from the others. -/
theorem attnBlk_at (i : grid2.Coords) (sc : Vec Ideal S1x1x1 .f32) (q : Vec Ideal S1x256x64 .f32) (k : Vec Ideal S2048x64 .f32)
    (v : Vec Ideal S2048x65 .bf16) (dk : Vec Ideal S8192x64 .f32) (dv : Vec Ideal S8192x65 .bf16) (a b : FVec Ideal S256x256 .f32)
    (hv : ∀ j : Fin 2048, v (ix2 j 64) = 1) (hdv : ∀ m : Fin 8192, dv (ix2 m 64) = 1) (r : Fin 256) (d : Fin 64)
    (g : Fin 8) (hg : (i 1).val = g.val) (σ : Fin 32 → Fin 8192) (hσ : Top32 (memScore sc q dk r) σ) :
    ∃ t, Cuts (memScore sc q dk r) σ t ∧ attnBlk i sc q k v dk dv a b (ix3 0 r d)
      = rowK (memScore sc q dk r) t (fun m => dv (ix2 m ⟨d.val, by omega⟩)) (locScore sc q k r) ⟨256 * g.val + r.val, by omega⟩
        (fun j => v (ix2 j ⟨d.val, by omega⟩)) := by
  have es : (fun m : Fin 8192 => k2_pay3 sc q dk (ix2 r m)) = memScore sc q dk r := funext fun m => k2_pay3_at sc q dk r m
  have el : ∀ j : Fin 2048, k2_pay336 (k2_pay2 sc q) k (ix2 r j) = locScore sc q k r j := fun j => k2_pay336_at sc q k r j
  refine ⟨attnThr (k2_pay3 sc q dk) a b (ix2 r 0), ?_, ?_⟩
  · have := attnThr_cuts (k2_pay3 sc q dk) a b r σ (by rw [es]; exact hσ)
    rwa [es] at this
  · unfold attnBlk rowK
    rw [hg, k2_pay1_at]
    have e4 : k2_pay334 (k2_pay3 sc q dk) (attnThr (k2_pay3 sc q dk) a b) dv (ix2 r d)
        = k2_pay333 (k2_pay3 sc q dk) (attnThr (k2_pay3 sc q dk) a b) dv (ix2 r ⟨d.val, by omega⟩) := by pointwise [k2_pay334]
    have e5 : k2_pay335 (k2_pay3 sc q dk) (attnThr (k2_pay3 sc q dk) a b) dv (ix2 r 0)
        = k2_pay333 (k2_pay3 sc q dk) (attnThr (k2_pay3 sc q dk) a b) dv (ix2 r 64) := by pointwise [k2_pay335]
    rw [e4, e5, k2_pay333_at, k2_pay333_at]
    simp only [hv, hdv, mul_one, el, k2_pay3_at]
    rfl

/-- One head's product with its rows of the output weights. -/
theorem k3_pay1_at (o : Vec Ideal S1x2048x64 .f32) (w : Vec Ideal S64x1024 .f32) (r : Fin 2048) (e : Fin 1024) :
    k3_pay1 o w (ix2 r e) = ∑ d : Fin 64, o (ix3 0 r d) * w (ix2 d e) := by
  pointwise [k3_pay1]

/-- The same added to what is there. -/
theorem k3_pay2_at (o : Vec Ideal S1x2048x64 .f32) (w : Vec Ideal S64x1024 .f32) (acc : Vec Ideal S2048x1024 .f32) (r : Fin 2048) (e : Fin 1024) :
    k3_pay2 o w acc (ix2 r e) = acc (ix2 r e) + ∑ d : Fin 64, o (ix3 0 r d) * w (ix2 d e) := by
  pointwise [k3_pay2, k3_pay1]

/-- The gate and the residual. -/
theorem k3_pay3_at (x acc : Vec Ideal S2048x1024 .f32) (g : Vec Ideal S1x1 .f32) (r : Fin 2048) (e : Fin 1024) :
    k3_pay3 x acc g (ix2 r e) = x (ix2 r e) + acc (ix2 r e) * Ideal.tanh (g (ix2 0 0)) := by
  pointwise [k3_pay3]
  rfl

end Cert.Proof

end
-- ==== Proof.Arrays.lean ====
module

public import proofs.«01_k».proof.Proof.KernelValue
public import proofs.«01_k».proof.Proof.Run
public import Idealize.ShloMosaic.Lib.Pipeline.ValueKit

/-! # The arrays the four calls leave

Each call's grid writes its result block by block.  Here the blocks are put together: what every call leaves is given as
one function of the arrays it finds. -/

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.Pipeline (Dat Cfg Window)

variable (V : Found Ideal) (c : Dev nD)

/-- The unit queries, from the input and the query weights. -/
def qAt (x : S2048x1024.Idx → EReal) (w : S1024x1024.Idx → EReal) : S16x2048x64.Idx → EReal := fun i =>
  unitRow eps (fun d => ∑ k : Fin 1024, x (ix2 (i 1) k) * w (ix2 k ⟨64 * (i 0).val + d.val, by have h : (i 0).val < 16 := (i 0).isLt; have := d.isLt; omega⟩)) (i 2)

/-- The block indices of the query projection at a grid point. -/
theorem idx0 : ∀ t : Fin grid0.N, (cfg0.win 0).index t = ![0, 0] ∧ (cfg0.win 1).index t = ![0, t.val] ∧ (cfg0.win 2).index t = ![t.val, 0, 0] := by
  decide +kernel

/-- The input, as the query projection reads it. -/
theorem blk0_0 (t : Fin cfg0.N) (r : Fin 2048) (k : Fin 1024) : blk0 V c 0 t (ix2 r k) = V c main_v0 (ix2 r k) := by
  blk_ext [blk0, idx0 t]

/-- Two heads' columns of the query weights. -/
theorem blk0_1 (t : Fin cfg0.N) (k : Fin 1024) (e : Fin 128) :
    blk0 V c 1 t (ix2 k e) = V c main_arg2 (ix2 k ⟨128 * t.val + e.val, by have h : t.val < 8 := t.isLt; omega⟩) := by
  blk_ext [blk0, idx0 t]

/-- The query array after its run. -/
theorem arr0 : (dat0 V c).arrAt 2 cfg0.N = qAt (V c main_v0) (V c main_arg2) := by
  refine (dat0 V c).arrAt_eq_of_covers 2 _ (by decide +kernel) fun t hf y => ?_
  blk_simp
  rw [after0_2]
  have hy : (y 0).val < 2 := (y 0).isLt
  have ht : t.val < 8 := t.isLt
  have e0 : (((win0_2.blk t).view.emb y) 0 : ℕ) = 2 * t.val + (y 0).val := by blk_simp [idx0 t]; omega
  have e1 : ((win0_2.blk t).view.emb y) 1 = y 1 := Fin.ext (by blk_simp [idx0 t])
  have e2 : ((win0_2.blk t).view.emb y) 2 = y 2 := Fin.ext (by blk_simp [idx0 t])
  unfold projQ qAt ofPair
  rw [e1, e2]
  split
  · rename_i h0
    refine (k0_pay2_at _ _ (y 1) (y 2)).trans ?_
    congr 1
    funext d
    refine Finset.sum_congr rfl fun k _ => ?_
    refine congrArg₂ (· * ·) (blk0_0 V c t _ k) ((blk0_1 V c t k _).trans
      (congrArg (V c main_arg2) (congrArg (ix2 k) (Fin.ext ?_))))
    show 128 * t.val + d.val = 64 * _ + d.val
    rw [e0]; omega
  · refine (k0_pay3_at _ _ (y 1) (y 2)).trans ?_
    congr 1
    funext d
    refine Finset.sum_congr rfl fun k _ => ?_
    refine congrArg₂ (· * ·) (blk0_0 V c t _ k) ((blk0_1 V c t k _).trans
      (congrArg (V c main_arg2) (congrArg (ix2 k) (Fin.ext ?_))))
    show 128 * t.val + (64 + d.val) = 64 * _ + d.val
    rw [e0]; omega

/-! ## The keys and values -/

/-- The unit keys, from the input and the key and value weights. -/
def kAt (x : S2048x1024.Idx → EReal) (w : S1024x128.Idx → EReal) : S2048x64.Idx → EReal := fun i =>
  unitRow eps (fun d => ∑ k : Fin 1024, x (ix2 (i 0) k) * w (ix2 k ⟨d.val, by have := d.isLt; omega⟩)) (i 1)

/-- The values, from the input and the key and value weights. -/
def vAt (x : S2048x1024.Idx → EReal) (w : S1024x128.Idx → EReal) : S2048x64.Idx → EReal := fun i =>
  ∑ k : Fin 1024, x (ix2 (i 0) k) * w (ix2 k ⟨64 + (i 1).val, by have h : (i 1).val < 64 := (i 1).isLt; omega⟩)

/-- The block indices of the key and value projection. -/
theorem idx1 : ∀ t : Fin cfg1.grid.N, (cfg1.win 0).index t = ![0, 0] ∧ (cfg1.win 1).index t = ![0, 0]
    ∧ (cfg1.win 2).index t = ![0, 0] ∧ (cfg1.win 3).index t = ![0, 0] := by decide +kernel

/-- The input, as the key and value projection reads it. -/
theorem blk1_0 (t : Fin cfg1.N) (r : Fin 2048) (k : Fin 1024) : blk1 V c 0 t (ix2 r k) = V c main_v0 (ix2 r k) := by
  blk_ext [blk1, idx1 t]

/-- The key and value weights. -/
theorem blk1_1 (t : Fin cfg1.N) (k : Fin 1024) (e : Fin 128) : blk1 V c 1 t (ix2 k e) = V c main_arg3 (ix2 k e) := by
  blk_ext [blk1, idx1 t]

/-- The key array after its run. -/
theorem arr1_k : (dat1 V c).arrAt 2 cfg1.N = kAt (V c main_v0) (V c main_arg3) := by
  refine (dat1 V c).arrAt_eq_of_covers 2 _ (by decide +kernel) fun t hf y => ?_
  blk_simp
  rw [after1_2]
  have e0 : ((win1_2.blk t).view.emb y) 0 = y 0 := Fin.ext (by blk_simp [idx1 t])
  have e1 : ((win1_2.blk t).view.emb y) 1 = y 1 := Fin.ext (by blk_simp [idx1 t])
  unfold kAt
  rw [e0, e1]
  refine (congrArg _ (show y = ix2 (y 0) (y 1) from ?_)).trans ((k1_pay2_at _ _ (y 0) (y 1)).trans ?_)
  · funext a; match a with | 0 => rfl | 1 => rfl
  congr 1
  funext d
  exact Finset.sum_congr rfl fun k _ => congrArg₂ (· * ·) (blk1_0 V c t _ k) (blk1_1 V c t k _)

/-- The value array after its run. -/
theorem arr1_v : (dat1 V c).arrAt 3 cfg1.N = vAt (V c main_v0) (V c main_arg3) := by
  refine (dat1 V c).arrAt_eq_of_covers 3 _ (by decide +kernel) fun t hf y => ?_
  blk_simp
  rw [after1_3]
  have e0 : ((win1_3.blk t).view.emb y) 0 = y 0 := Fin.ext (by blk_simp [idx1 t])
  have e1 : ((win1_3.blk t).view.emb y) 1 = y 1 := Fin.ext (by blk_simp [idx1 t])
  unfold vAt
  rw [e0]
  refine (congrArg _ (show y = ix2 (y 0) (y 1) from ?_)).trans ((k1_pay3_at _ _ (y 0) (y 1)).trans ?_)
  · funext a; match a with | 0 => rfl | 1 => rfl
  exact Finset.sum_congr rfl fun k _ => congrArg₂ (· * ·) (blk1_0 V c t _ k) ((blk1_1 V c t k _).trans
    (congrArg (V c main_arg3) (congrArg (ix2 k) (Fin.ext (congrArg (fun z : Fin 64 => 64 + z.val) e1.symm)))))

/-! ## The attention -/

/-- The block indices of the attention at a grid point, and the point's second coordinate. -/
theorem idx2 : ∀ t : Fin cfg2.grid.N, ((cfg2.win 0).index t = ![t.val / 8, 0, 0] ∧ (cfg2.win 1).index t = ![t.val / 8, t.val % 8, 0]
    ∧ (cfg2.win 2).index t = ![0, 0] ∧ (cfg2.win 3).index t = ![0, 0] ∧ (cfg2.win 4).index t = ![0, 0] ∧ (cfg2.win 5).index t = ![0, 0]
    ∧ (cfg2.win 6).index t = ![t.val / 8, t.val % 8, 0]) ∧ ((grid2.coords t) 1).val = t.val % 8 := by decide +kernel

/-- The head's scale. -/
theorem blk2_0 (t : Fin cfg2.N) (h : Fin 16) (hh : h.val = t.val / 8) : blk2 V c 0 t (ix3 0 0 0) = V c main_arg5 (ix3 h 0 0) := by
  blk_ext [blk2, (idx2 t).1]

/-- The head's block of queries. -/
theorem blk2_1 (t : Fin cfg2.N) (h : Fin 16) (hh : h.val = t.val / 8) (r : Fin 256) (d : Fin 64) :
    blk2 V c 1 t (ix3 0 r d) = V c main_v10 (ix3 h ⟨256 * (t.val % 8) + r.val, by have := r.isLt; omega⟩ d) := by
  blk_ext [blk2, (idx2 t).1]

/-- The keys. -/
theorem blk2_2 (t : Fin cfg2.N) (j : Fin 2048) (d : Fin 64) : blk2 V c 2 t (ix2 j d) = V c main_v11_0 (ix2 j d) := by
  blk_ext [blk2, (idx2 t).1]

/-- The values with their column of ones. -/
theorem blk2_3 (t : Fin cfg2.N) (j : Fin 2048) (d : Fin 65) : blk2 V c 3 t (ix2 j d) = V c main_v14 (ix2 j d) := by
  blk_ext [blk2, (idx2 t).1]

/-- The memory keys. -/
theorem blk2_4 (t : Fin cfg2.N) (j : Fin 8192) (d : Fin 64) : blk2 V c 4 t (ix2 j d) = V c main_v3 (ix2 j d) := by
  blk_ext [blk2, (idx2 t).1]

/-- The memory values with their column of ones. -/
theorem blk2_5 (t : Fin cfg2.N) (j : Fin 8192) (d : Fin 65) : blk2 V c 5 t (ix2 j d) = V c main_v9 (ix2 j d) := by
  blk_ext [blk2, (idx2 t).1]

/-- The score of a key row `k j` for head `h` and position `r`, as the kernel forms it: the query scaled first. -/
def scoreK {n : ℕ} (sc : S16x1x1.Idx → EReal) (q : S16x2048x64.Idx → EReal) (k : Fin n → Fin 64 → EReal) (h : Fin 16) (r : Fin 2048)
    (j : Fin n) : EReal := ∑ d : Fin 64, q (ix3 h r d) * Ideal.exp (sc (ix3 h 0 0)) * k j d

/-- That `v` is what the attention owes at head `h`, position `r` and column `d`: whichever columns `σ` are the row's 32
    greatest memory scores, the kernel's row formula over some threshold that separates them from the others. -/
def AttnEntry (h : Fin 16) (r : Fin 2048) (d : Fin 64) (v : EReal) : Prop :=
  ∀ σ : Fin 32 → Fin 8192, Top32 (scoreK (V c main_arg5) (V c main_v10) (fun m d => V c main_v3 (ix2 m d)) h r) σ →
    ∃ t₀, Cuts (scoreK (V c main_arg5) (V c main_v10) (fun m d => V c main_v3 (ix2 m d)) h r) σ t₀ ∧
      v = rowK (scoreK (V c main_arg5) (V c main_v10) (fun m d => V c main_v3 (ix2 m d)) h r) t₀
            (fun m => V c main_v9 (ix2 m ⟨d.val, by have := d.isLt; omega⟩))
            (scoreK (V c main_arg5) (V c main_v10) (fun j d => V c main_v11_0 (ix2 j d)) h r) r
            (fun j => V c main_v14 (ix2 j ⟨d.val, by have := d.isLt; omega⟩))

/-- What the attention's body leaves at a row of its block and a column. -/
theorem attn_point (hv : ∀ j : Fin 2048, @Eq EReal (V c main_v14 (ix2 j 64)) 1) (hdv : ∀ m : Fin 8192, @Eq EReal (V c main_v9 (ix2 m 64)) 1)
    (t : Fin cfg2.N) (h : Fin 16) (r : Fin 2048) (d : Fin 64) (r' : Fin 256) (hh : h.val = t.val / 8) (hr : r.val = 256 * (t.val % 8) + r'.val) :
    AttnEntry V c h r d (attnAt V c t (ix3 0 r' d)) := by
  intro σ hσ
  obtain ⟨a, b, e⟩ := attnAt_eq V c t
  have ht : t.val < 128 := t.isLt
  have er : (⟨256 * (t.val % 8) + r'.val, by have := r'.isLt; omega⟩ : Fin 2048) = r := Fin.ext hr.symm
  have eq : ∀ d : Fin 64, blk2 V c 1 t (ix3 0 r' d) = V c main_v10 (ix3 h r d) := fun d =>
    (blk2_1 V c t h hh r' d).trans (by rw [er])
  have es : memScore (blk2 V c 0 t) (blk2 V c 1 t) (blk2 V c 4 t) r'
      = scoreK (V c main_arg5) (V c main_v10) (fun m d => V c main_v3 (ix2 m d)) h r := funext fun m =>
    Finset.sum_congr rfl fun d _ => congrArg₂ (· * ·) (congrArg₂ (· * ·) (eq d) (congrArg Ideal.exp (blk2_0 V c t h hh))) (blk2_4 V c t m d)
  have el : locScore (blk2 V c 0 t) (blk2 V c 1 t) (blk2 V c 2 t) r'
      = scoreK (V c main_arg5) (V c main_v10) (fun m d => V c main_v11_0 (ix2 m d)) h r := funext fun m =>
    Finset.sum_congr rfl fun d _ => congrArg₂ (· * ·) (congrArg₂ (· * ·) (eq d) (congrArg Ideal.exp (blk2_0 V c t h hh))) (blk2_2 V c t m d)
  obtain ⟨t₀, h1, h2⟩ := attnBlk_at (grid2.coords t) (blk2 V c 0 t) (blk2 V c 1 t) (blk2 V c 2 t) (blk2 V c 3 t) (blk2 V c 4 t) (blk2 V c 5 t) a b
    (fun j => (blk2_3 V c t j 64).trans (hv j)) (fun m => (blk2_5 V c t m 64).trans (hdv m)) r' d ⟨t.val % 8, by omega⟩ (idx2 t).2 σ (by rw [es]; exact hσ)
  rw [es] at h1 h2
  rw [el] at h2
  refine ⟨t₀, h1, (congrFun e _).trans (h2.trans ?_)⟩
  exact congrArg₂ (fun a b => rowK _ t₀ a _ _ b) (funext fun m => blk2_5 V c t m _) (funext fun j => blk2_3 V c t j _) |>.trans
    (congrArg (fun i => rowK _ t₀ _ _ i _) er)

/-- The attention's array after its run, at every element. -/
theorem arr2 (hv : ∀ j : Fin 2048, @Eq EReal (V c main_v14 (ix2 j 64)) 1) (hdv : ∀ m : Fin 8192, @Eq EReal (V c main_v9 (ix2 m 64)) 1)
    (h : Fin 16) (r : Fin 2048) (d : Fin 64) : AttnEntry V c h r d ((dat2 V c).arrAt 6 cfg2.N (ix3 h r d)) := by
  refine (dat2 V c).arrAt_forall_of_covers 6 (fun i v => AttnEntry V c (i 0) (i 1) (i 2) v) (by decide +kernel) (fun t hf y => ?_) (ix3 h r d)
  show AttnEntry V c (((win2_6.blk t).view.emb y) 0) (((win2_6.blk t).view.emb y) 1) (((win2_6.blk t).view.emb y) 2) ((dat2 V c).after 6 t y)
  have hy0 : (y 0).val < 1 := (y 0).isLt
  have ht : t.val < 128 := t.isLt
  have e0 : (((win2_6.blk t).view.emb y) 0 : ℕ) = t.val / 8 := by blk_simp [(idx2 t).1]
  have e1 : (((win2_6.blk t).view.emb y) 1 : ℕ) = 256 * (t.val % 8) + (y 1).val := by blk_simp [(idx2 t).1]; omega
  have e2 : ((win2_6.blk t).view.emb y) 2 = y 2 := Fin.ext (by blk_simp [(idx2 t).1])
  rw [show (dat2 V c).after 6 t y = attnAt V c t (ix3 0 (y 1) (((win2_6.blk t).view.emb y) 2)) from ?_]
  · exact attn_point V c hv hdv t _ _ _ (y 1) e0 e1
  refine (congrFun (after2_6 V c t) y).trans (congrArg (attnAt V c t) (show y = ix3 0 (y 1) (((win2_6.blk t).view.emb y) 2) from ?_))
  funext a
  match a with
  | 0 => exact Fin.ext (by show (y 0).val = 0; omega)
  | 1 => rfl
  | 2 => exact e2.symm

/-! ## The output projection -/

/-- The block indices of the output projection at a grid point. -/
theorem idx3 : ∀ t : Fin cfg3.grid.N, (cfg3.win 0).index t = ![0, 0] ∧ (cfg3.win 1).index t = ![t.val, 0, 0]
    ∧ (cfg3.win 2).index t = ![t.val, 0] ∧ (cfg3.win 3).index t = ![0, 0] ∧ (cfg3.win 4).index t = ![0, 0] := by decide +kernel

/-- Which of the output projection's branches are taken at a grid point. -/
theorem conds3 : ∀ t : Fin cfg3.grid.N, (k3_cond1 (grid3.coords t) = 1#1 ↔ t.val = 0) ∧ (k3_cond2 (grid3.coords t) = 1#1 ↔ t.val ≠ 0)
    ∧ (k3_cond3 (grid3.coords t) = 1#1 ↔ t.val = 15) := by decide +kernel

/-- The residual. -/
theorem blk3_0 (t : Fin cfg3.N) (r : Fin 2048) (e : Fin 1024) : blk3 V c 0 t (ix2 r e) = V c main_v0 (ix2 r e) := by
  blk_ext [blk3, idx3 t]

/-- One head's rows. -/
theorem blk3_1 (t : Fin cfg3.N) (r : Fin 2048) (d : Fin 64) : blk3 V c 1 t (ix3 0 r d) = V c main_v15 (ix3 ⟨t.val, t.isLt⟩ r d) := by
  blk_ext [blk3, idx3 t]

/-- The head's rows of the output weights. -/
theorem blk3_2 (t : Fin cfg3.N) (d : Fin 64) (e : Fin 1024) :
    blk3 V c 2 t (ix2 d e) = V c main_arg4 (ix2 ⟨64 * t.val + d.val, by have h : t.val < 16 := t.isLt; have := d.isLt; omega⟩ e) := by
  blk_ext [blk3, idx3 t]

/-- The gate. -/
theorem blk3_3 (t : Fin cfg3.N) : blk3 V c 3 t (ix2 0 0) = V c main_v16 (ix2 0 0) := by
  blk_ext [blk3, idx3 t]

/-- One head's contribution to an entry of the output projection. -/
def headOut (o : S16x2048x64.Idx → EReal) (w : S1024x1024.Idx → EReal) (r : Fin 2048) (e : Fin 1024) (h : Fin 16) : EReal :=
  ∑ d : Fin 64, o (ix3 h r d) * w (ix2 ⟨64 * h.val + d.val, by have := h.isLt; have := d.isLt; omega⟩ e)

/-- An entry of the output projection: the residual and the gated sum over the heads. -/
def outEntry (x : S2048x1024.Idx → EReal) (o : S16x2048x64.Idx → EReal) (w : S1024x1024.Idx → EReal) (g : EReal) (r : Fin 2048)
    (e : Fin 1024) : EReal := x (ix2 r e) + (∑ h : Fin 16, headOut o w r e h) * Ideal.tanh g

/-- The output buffer after the first head. -/
theorem outAt_zero (hn : 0 < cfg3.N) : outAt V c 0 hn = outStep (grid3.coords ⟨0, hn⟩) (blk3 V c 0 ⟨0, hn⟩) (blk3 V c 1 ⟨0, hn⟩)
    (blk3 V c 2 ⟨0, hn⟩) (blk3 V c 3 ⟨0, hn⟩) (blk3 V c 0 ⟨0, hn⟩) := rfl

/-- The output buffer after a later head. -/
theorem outAt_succ (n : ℕ) (hn : n + 1 < cfg3.N) : outAt V c (n + 1) hn = outStep (grid3.coords ⟨n + 1, hn⟩) (blk3 V c 0 ⟨n + 1, hn⟩)
    (blk3 V c 1 ⟨n + 1, hn⟩) (blk3 V c 2 ⟨n + 1, hn⟩) (blk3 V c 3 ⟨n + 1, hn⟩) (outAt V c n (Nat.lt_of_succ_lt hn)) := rfl

/-- The output buffer after `n + 1` heads: the sum of their contributions, and after the last one the gate and the residual. -/
theorem outAt_sum (r : Fin 2048) (e : Fin 1024) : ∀ (n : ℕ) (hn : n < 16), outAt V c n hn (ix2 r e)
    = if n = 15 then outEntry (V c main_v0) (V c main_v15) (V c main_arg4) (V c main_v16 (ix2 0 0)) r e
      else ∑ h : Fin (n + 1), headOut (V c main_v15) (V c main_arg4) r e ⟨h.val, by have := h.isLt; omega⟩ := by
  have hp1 : ∀ t : Fin cfg3.N, k3_pay1 (blk3 V c 1 t) (blk3 V c 2 t) (ix2 r e)
      = headOut (V c main_v15) (V c main_arg4) r e ⟨t.val, t.isLt⟩ := fun t => (k3_pay1_at _ _ r e).trans
    (Finset.sum_congr rfl fun d _ => congrArg₂ (fun a b : EReal => a * b) (blk3_1 V c t r d) (blk3_2 V c t d e))
  have hp2 : ∀ (t : Fin cfg3.N) (acc : Vec Ideal S2048x1024 .f32), k3_pay2 (blk3 V c 1 t) (blk3 V c 2 t) acc (ix2 r e)
      = acc (ix2 r e) + headOut (V c main_v15) (V c main_arg4) r e ⟨t.val, t.isLt⟩ := fun t acc => (k3_pay2_at _ _ acc r e).trans
    (congrArg (acc (ix2 r e) + ·)
      (Finset.sum_congr rfl fun d _ => congrArg₂ (fun a b : EReal => a * b) (blk3_1 V c t r d) (blk3_2 V c t d e)))
  intro n
  induction n with
  | zero =>
    intro hn
    have hc := conds3 ⟨0, hn⟩
    refine (congrFun (outAt_zero V c hn) _).trans ?_
    unfold outStep outNext outFirst
    rw [if_neg (fun h => Nat.noConfusion (show (0 : ℕ) = 15 from hc.2.2.mp h)), if_neg (fun h => absurd rfl (hc.2.1.mp h)), if_pos (hc.1.mpr rfl),
      if_neg (by decide), hp1]
    exact (Fin.sum_univ_one fun h : Fin (0 + 1) => headOut (V c main_v15) (V c main_arg4) r e ⟨h.val, by have := h.isLt; omega⟩).symm
  | succ n ih =>
    intro hn
    have hc := conds3 ⟨n + 1, hn⟩
    have ih := ih (by omega)
    rw [if_neg (by omega)] at ih
    have es : outNext (grid3.coords ⟨n + 1, hn⟩) (blk3 V c 1 ⟨n + 1, hn⟩) (blk3 V c 2 ⟨n + 1, hn⟩)
        (outFirst (grid3.coords ⟨n + 1, hn⟩) (blk3 V c 1 ⟨n + 1, hn⟩) (blk3 V c 2 ⟨n + 1, hn⟩) (outAt V c n (Nat.lt_of_succ_lt hn))) (ix2 r e)
        = ∑ h : Fin (n + 1 + 1), headOut (V c main_v15) (V c main_arg4) r e ⟨h.val, by have := h.isLt; omega⟩ := by
      unfold outNext outFirst
      rw [if_pos (hc.2.1.mpr (Nat.succ_ne_zero n)), if_neg (fun h => absurd (hc.1.mp h) (Nat.succ_ne_zero n)), hp2, ih]
      exact (Fin.sum_univ_castSucc fun h : Fin (n + 1 + 1) => headOut (V c main_v15) (V c main_arg4) r e ⟨h.val, by have := h.isLt; omega⟩).symm
    refine (congrFun (outAt_succ V c n hn) _).trans ?_
    unfold outStep
    by_cases h15 : n + 1 = 15
    · rw [if_pos (hc.2.2.mpr h15), if_pos h15]
      refine (k3_pay3_at _ _ _ r e).trans ?_
      rw [es]
      have : n = 14 := by omega
      subst this
      exact congrArg₂ (fun a b : EReal => a + _ * Ideal.tanh b) (blk3_0 V c _ r e) (blk3_3 V c _)
    · rw [if_neg (fun h => h15 (hc.2.2.mp h)), if_neg h15, es]

/-- The output array after its run. -/
theorem arr3 : (dat3 V c).arrAt 4 cfg3.N
    = fun i => outEntry (V c main_v0) (V c main_v15) (V c main_arg4) (V c main_v16 (ix2 0 0)) (i 0) (i 1) := by
  refine (dat3 V c).arrAt_eq_of_after_last 4 ⟨15, by decide⟩ (by decide +kernel) _ fun j => ?_
  blk_simp
  refine (congrFun (after3_4 V c ⟨15, by decide⟩) _).trans ?_
  refine (congrArg (outAt V c 15 (by decide)) (show _ = ix2 (j 0) (j 1) from ?_)).trans (outAt_sum V c (j 0) (j 1) 15 (by decide))
  funext a
  match a with
  | 0 => rfl
  | 1 => rfl

end Cert.Proof

end
-- ==== Proof.Spec.lean ====
/-
  The value of one output entry, written over the entries of the seven arguments: both programs are shown to compute it.
-/
module

public import proofs.«01_k».proof.Proof.KernelValue

@[expose] public section

noncomputable section

namespace Cert.Proof

open Idealize.ShloMosaic

/-- The entries of the seven arguments: the input, the stored rows (keys at 0, values at 1), the three weight matrices, the
    heads' log scales and the gate. -/
structure Args where
  x : Fin 2048 → Fin 1024 → EReal
  db : Fin 8192 → Fin 2 → Fin 64 → EReal
  wq : Fin 1024 → Fin 1024 → EReal
  wkv : Fin 1024 → Fin 128 → EReal
  wo : Fin 1024 → Fin 1024 → EReal
  sc : Fin 16 → EReal
  g : EReal

namespace Args

variable (A : Args)

/-- Column `d` of head `h` among all heads' columns. -/
def col (h : Fin 16) (d : Fin 64) : Fin 1024 := ⟨64 * h.val + d.val, by have := h.isLt; have := d.isLt; omega⟩

/-- The unit query of a head at a position. -/
def q (h : Fin 16) (r : Fin 2048) : Fin 64 → EReal := unitRow eps fun d => ∑ k : Fin 1024, A.x r k * A.wq k (col h d)

/-- The unit key at a position. -/
def k (j : Fin 2048) : Fin 64 → EReal := unitRow eps fun d => ∑ k : Fin 1024, A.x j k * A.wkv k ⟨d.val, by have := d.isLt; omega⟩

/-- The value at a position. -/
def v (j : Fin 2048) (d : Fin 64) : EReal := ∑ k : Fin 1024, A.x j k * A.wkv k ⟨64 + d.val, by have := d.isLt; omega⟩

/-- The similarity of a query and a stored key. -/
def sim (h : Fin 16) (r : Fin 2048) (m : Fin 8192) : EReal := ∑ d : Fin 64, A.q h r d * A.db m 0 d

/-- The scaled similarity of a query and a stored key. -/
def memS (h : Fin 16) (r : Fin 2048) (m : Fin 8192) : EReal := A.sim h r m * Ideal.exp (A.sc h)

/-- The scaled similarity of a query and a key. -/
def locS (h : Fin 16) (r : Fin 2048) (j : Fin 2048) : EReal := (∑ d : Fin 64, A.q h r d * A.k j d) * Ideal.exp (A.sc h)

/-- An entry of a head's attention, the stored rows `σ` retrieved. -/
def head (σ : Fin 32 → Fin 8192) (h : Fin 16) (r : Fin 2048) (d : Fin 64) : EReal :=
  rowR (fun k => A.memS h r (σ k)) (fun k => A.db (σ k) 1 d) (A.locS h r) r (fun j => A.v j d)

/-- An entry of the result, the stored rows `σ h r` retrieved for head `h` at position `r`. -/
def out (σ : Fin 16 → Fin 2048 → Fin 32 → Fin 8192) (r : Fin 2048) (e : Fin 1024) : EReal :=
  A.x r e + (∑ h : Fin 16, ∑ d : Fin 64, A.head (σ h r) h r d * A.wo (col h d) e) * Ideal.tanh A.g

/-- That the scales are real numbers, and no similarity is plus infinity. -/
structure Tame : Prop where
  sc : ∀ h, IsReal (A.sc h)
  lt : ∀ h r m, A.sim h r m < ⊤

variable {A}

/-- The queries are real. -/
theorem q_real (h : Fin 16) (r : Fin 2048) (d : Fin 64) : IsReal (A.q h r d) := unitRow_real eps_pos _ d

/-- The keys are real. -/
theorem k_real (j : Fin 2048) (d : Fin 64) : IsReal (A.k j d) := unitRow_real eps_pos _ d

/-- The retrieved similarities are real: they are below plus infinity, and 32 of 8192 rows leave a smaller one. -/
theorem Tame.sim (R : A.Tame) {h : Fin 16} {r : Fin 2048} {σ : Fin 32 → Fin 8192} (hσ : Top32 (A.sim h r) σ) (k : Fin 32) :
    IsReal (A.sim h r (σ k)) := by
  have hi := R.lt h r (σ k)
  have lo := hσ.bot_lt (by norm_num) k
  generalize A.sim h r (σ k) = x at hi lo
  induction x with
  | bot => exact absurd lo (lt_irrefl _)
  | top => exact absurd hi (lt_irrefl _)
  | coe r => exact ⟨r, rfl⟩

/-- The scaled retrieved similarities are real. -/
theorem Tame.memS (R : A.Tame) {h : Fin 16} {r : Fin 2048} {σ : Fin 32 → Fin 8192} (hσ : Top32 (A.sim h r) σ) (k : Fin 32) :
    IsReal (A.memS h r (σ k)) :=
  (R.sim hσ k).mul (R.sc h).exp.real

/-- The scaled similarities of the keys are real. -/
theorem Tame.locS (R : A.Tame) (h : Fin 16) (r : Fin 2048) (j : Fin 2048) : IsReal (A.locS h r j) :=
  (isReal_sum _ _ fun d => (q_real h r d).mul (k_real j d)).mul (R.sc h).exp.real

/-- Scaling keeps the retrieved rows. -/
theorem Tame.top (R : A.Tame) {h : Fin 16} {r : Fin 2048} {σ : Fin 32 → Fin 8192} (hσ : Top32 (A.sim h r) σ) : Top32 (A.memS h r) σ :=
  hσ.mono fun _ _ l => mul_pos_lt (R.sc h).exp l

end Args

end Cert.Proof

end
-- ==== Proof.Whole.lean ====
/-
  The kernel's result, entry by entry: the host's operations around the calls, what each call leaves, and their composition.
-/
module

public import proofs.«01_k».proof.Proof.Arrays
public import proofs.«01_k».proof.Proof.Spec

@[expose] public section

set_option maxRecDepth 16384

noncomputable section

namespace Cert.Proof

open Cert.KernelIdeal Cert.KernelIdeal.Gen
open Idealize.ShloMosaic Idealize.ShloMosaic.TcCoe Idealize.ShloMosaic.Tactic
open Idealize.ShloMosaic.Pipeline (Dat Cfg Window afterRegion afterRegion_arr)

/-! ## The host's operations -/

variable (W : Valuation τ sig (Elt Ideal))

/-- The host's view of the input as a matrix. -/
theorem host_v0 (r : Fin 2048) (k : Fin 1024) :
    (StableHlo.after hostOps0 W (Proc.devRef .tc main_v0) : S2048x1024.Idx → EReal) (ix2 r k)
      = (W (Proc.devRef .tc main_arg0) : S1x2048x1024.Idx → EReal) (ix3 0 r k) := by
  unfold hostOps0
  after_results
  pointwise []

/-- The stored keys, as a matrix. -/
theorem host_v3 (j : Fin 8192) (d : Fin 64) :
    (StableHlo.after hostOps0 W (Proc.devRef .tc main_v3) : S8192x64.Idx → EReal) (ix2 j d)
      = (W (Proc.devRef .tc main_arg1) : S1x8192x2x64.Idx → EReal) (ix4 0 j 0 d) := by
  unfold hostOps0
  after_results
  pointwise []

/-- The stored values, as a matrix: its first 64 columns. -/
theorem host_v9 (j : Fin 8192) (d : Fin 64) :
    (StableHlo.after hostOps0 W (Proc.devRef .tc main_v9) : S8192x65.Idx → EReal) (ix2 j ⟨d.val, by have := d.isLt; omega⟩)
      = (W (Proc.devRef .tc main_arg1) : S1x8192x2x64.Idx → EReal) (ix4 0 j 1 d) := by
  unfold hostOps0
  after_results
  pointwise []

/-- The column of ones beside the stored values. -/
theorem host_v9_one (j : Fin 8192) :
    @Eq EReal (StableHlo.after hostOps0 W (Proc.devRef .tc main_v9) (ix2 j 64)) 1 := by
  unfold hostOps0
  after_results
  pointwise []

/-- The values: the first 64 columns of the array the attention reads. -/
theorem host_v14 (j : Fin 2048) (d : Fin 64) :
    (StableHlo.after hostOps2 W (Proc.devRef .tc main_v14) : S2048x65.Idx → EReal) (ix2 j ⟨d.val, by have := d.isLt; omega⟩)
      = (W (Proc.devRef .tc main_v11_1) : S2048x64.Idx → EReal) (ix2 j d) := by
  unfold hostOps2
  after_results
  pointwise []

/-- The column of ones beside the values. -/
theorem host_v14_one (j : Fin 2048) :
    @Eq EReal (StableHlo.after hostOps2 W (Proc.devRef .tc main_v14) (ix2 j 64)) 1 := by
  unfold hostOps2
  after_results
  pointwise []

/-- The gate. -/
theorem host_v16 :
    (StableHlo.after hostOps3 W (Proc.devRef .tc main_v16) : S1x1.Idx → EReal) (ix2 0 0)
      = (W (Proc.devRef .tc main_arg6) : S1.Idx → EReal) (ix1 0) := by
  unfold hostOps3
  after_results
  pointwise []

/-- The result, as the host returns it. -/
theorem host_v18 (r : Fin 2048) (e : Fin 1024) :
    (StableHlo.after hostOps4 W (Proc.devRef .tc main_v18) : S1x2048x1024.Idx → EReal) (ix3 0 r e)
      = (W (Proc.devRef .tc main_v17) : S2048x1024.Idx → EReal) (ix2 r e) := by
  unfold hostOps4
  after_results
  pointwise []

/-! ## What the regions leave -/

variable (m : (ℓ : Loc nD τ sig) → Buf (Elt Ideal) ℓ) (c : Dev nD)

/-- The entries of the arguments, as the kernel's program holds them on a core. -/
def argsK : Args where
  x r k := (m (c, Proc.devRef .tc main_arg0) : S1x2048x1024.Idx → EReal) (ix3 0 r k)
  db j p d := (m (c, Proc.devRef .tc main_arg1) : S1x8192x2x64.Idx → EReal) (ix4 0 j p d)
  wq k e := (m (c, Proc.devRef .tc main_arg2) : S1024x1024.Idx → EReal) (ix2 k e)
  wkv k e := (m (c, Proc.devRef .tc main_arg3) : S1024x128.Idx → EReal) (ix2 k e)
  wo k e := (m (c, Proc.devRef .tc main_arg4) : S1024x1024.Idx → EReal) (ix2 k e)
  sc h := (m (c, Proc.devRef .tc main_arg5) : S16x1x1.Idx → EReal) (ix3 h 0 0)
  g := (m (c, Proc.devRef .tc main_arg6) : S1.Idx → EReal) (ix1 0)

/-- The input as the first calls read it. -/
theorem at1_v0 (r : Fin 2048) (k : Fin 1024) : (V1 m c main_v0 : S2048x1024.Idx → EReal) (ix2 r k) = (argsK m c).x r k := host_v0 (V0 m c) r k

/-- The query projection leaves the input unchanged. -/
theorem at2_v0 : at2 m c main_v0 = V1 m c main_v0 := V2_of m (fun _ => left2 m) c main_v0 (by decide)
/-- The key and value weights are unchanged. -/
theorem at2_arg3 : at2 m c main_arg3 = m (c, Proc.devRef .tc main_arg3) := (V2_of m (fun _ => left2 m) c main_arg3 (by decide)).trans (V1_of m c main_arg3 (by decide))

/-- The queries the attention reads. -/
theorem at4_v10 (h : Fin 16) (r : Fin 2048) (d : Fin 64) : (at4 m c main_v10 : S16x2048x64.Idx → EReal) (ix3 h r d) = (argsK m c).q h r d := by
  have e : at4 m c main_v10 = qAt (V1 m c main_v0) (V1 m c main_arg2) :=
    (V4_of m _ c main_v10 (by decide)).trans ((V3_of m _ c main_v10 (by decide)).trans
      ((Function.update_self _ _ _).trans ((afterRegion_arr (dat0 (found (V1 m)) c) (V1 m c) launch0.win.arr_inj 2).trans (arr0 (found (V1 m)) c))))
  rw [e]
  unfold qAt Args.q
  refine congrArg (fun u => unitRow eps u d) (funext fun d => Finset.sum_congr rfl fun k _ => ?_)
  exact congrArg₂ (fun a b : EReal => a * b) (at1_v0 m c r k) (congrFun (V1_of m c main_arg2 (by decide)) _)

/-- The keys the attention reads. -/
theorem at4_v11_0 (j : Fin 2048) (d : Fin 64) : (at4 m c main_v11_0 : S2048x64.Idx → EReal) (ix2 j d) = (argsK m c).k j d := by
  have e : at4 m c main_v11_0 = kAt (at2 m c main_v0) (at2 m c main_arg3) :=
    (V4_of m _ c main_v11_0 (by decide)).trans ((Function.update_of_ne (by decide) _ _).trans
      ((Function.update_self _ _ _).trans ((afterRegion_arr (dat1 (found (at2 m)) c) (at2 m c) launch1.win.arr_inj 2).trans (arr1_k (found (at2 m)) c))))
  rw [e, at2_v0, at2_arg3]
  unfold kAt Args.k
  refine congrArg (fun u => unitRow eps u d) (funext fun d => Finset.sum_congr rfl fun k _ => ?_)
  exact congrArg (fun a : EReal => a * _) (at1_v0 m c j k)

/-- The values the attention reads. -/
theorem at4_v14 (j : Fin 2048) (d : Fin 64) :
    (at4 m c main_v14 : S2048x65.Idx → EReal) (ix2 j ⟨d.val, by have := d.isLt; omega⟩) = (argsK m c).v j d := by
  refine (host_v14 _ j d).trans ?_
  have e : V3 m (fun k => match k with | 2 => left2 m | _ => left3 m) c main_v11_1 = vAt (at2 m c main_v0) (at2 m c main_arg3) :=
      ((Function.update_self _ _ _).trans ((afterRegion_arr (dat1 (found (at2 m)) c) (at2 m c) launch1.win.arr_inj 3).trans (arr1_v (found (at2 m)) c)))
  refine (congrFun e _).trans ?_
  rw [at2_v0, at2_arg3]
  unfold vAt Args.v
  exact @Finset.sum_congr (Fin 1024) EReal _ _ _ _ _ rfl fun k _ => congrArg (fun a : EReal => a * _) (at1_v0 m c j k)

/-- A buffer written before the first call only, as the attention finds it. -/
theorem at4_host (r : Ref sig .tc) (h2 : r ∉ hostOps2_W) (h1 : r ∉ ([main_v11_0, main_v11_1] : List (Ref sig .tc)))
    (h0 : r ∉ ([main_v10] : List (Ref sig .tc))) : at4 m c r = V1 m c r :=
  (V4_of m _ c r h2).trans ((V3_of m _ c r h1).trans (V2_of m _ c r h0))

/-- A buffer written before the first call only, as the output projection finds it. -/
theorem at6_host (r : Ref sig .tc) (h4 : r ∉ hostOps3_W) (h3 : r ∉ ([main_v15] : List (Ref sig .tc))) (h2 : r ∉ hostOps2_W)
    (h1 : r ∉ ([main_v11_0, main_v11_1] : List (Ref sig .tc))) (h0 : r ∉ ([main_v10] : List (Ref sig .tc))) : at6 m c r = V1 m c r :=
  (V6_of m _ c r h4).trans ((V5_of m _ c r h3).trans ((V4_of m _ c r h2).trans ((V3_of m _ c r h1).trans (V2_of m _ c r h0))))

/-- A head's attention, as the output projection finds it: the reference's row formula over the retrieved rows. -/
theorem at6_v15 (h : Fin 16) (r : Fin 2048) (d : Fin 64) (R : (argsK m c).Tame) (σ : Fin 32 → Fin 8192)
    (hσ : Top32 ((argsK m c).sim h r) σ) : (at6 m c main_v15 : S16x2048x64.Idx → EReal) (ix3 h r d) = (argsK m c).head σ h r d := by
  have e : at6 m c main_v15 = (dat2 (found (at4 m)) c).arrAt 6 cfg2.N :=
    (V6_of m _ c main_v15 (by decide)).trans ((Function.update_self _ _ _).trans
      (afterRegion_arr (dat2 (found (at4 m)) c) (at4 m c) launch2.win.arr_inj 6))
  have a := arr2 (found (at4 m)) c (fun j => host_v14_one _ j)
    (fun j => (congrFun (at4_host m c main_v9 (by decide) (by decide) (by decide)) _).trans (host_v9_one (V0 m c) j)) h r d
  have hsc : at4 m c main_arg5 (ix3 h 0 0) = (argsK m c).sc h :=
    congrFun ((at4_host m c main_arg5 (by decide) (by decide) (by decide)).trans (V1_of m c main_arg5 (by decide))) _
  have hv3 : ∀ (j : Fin 8192) (d : Fin 64), at4 m c main_v3 (ix2 j d) = (argsK m c).db j 0 d := fun j d =>
    (congrFun (at4_host m c main_v3 (by decide) (by decide) (by decide)) _).trans (host_v3 (V0 m c) j d)
  have hv9 : ∀ (j : Fin 8192), at4 m c main_v9 (ix2 j ⟨d.val, by have := d.isLt; omega⟩) = (argsK m c).db j 1 d := fun j =>
    (congrFun (at4_host m c main_v9 (by decide) (by decide) (by decide)) _).trans (host_v9 (V0 m c) j d)
  have hq := at4_v10 m c h r
  have e1 : scoreK (at4 m c main_arg5) (at4 m c main_v10) (fun j d => at4 m c main_v3 (ix2 j d)) h r = (argsK m c).memS h r := by
    funext j
    refine Eq.trans ?_ (scaled_dot ((argsK m c).q h r) (fun d => (argsK m c).db j 0 d) (R.sc h).exp)
    exact Finset.sum_congr rfl fun d _ => congrArg₂ (fun a b : EReal => a * b)
      (congrArg₂ (fun a b : EReal => a * b) (hq d) (congrArg Ideal.exp hsc)) (hv3 j d)
  have e2 : scoreK (at4 m c main_arg5) (at4 m c main_v10) (fun j d => at4 m c main_v11_0 (ix2 j d)) h r = (argsK m c).locS h r := by
    funext j
    refine Eq.trans ?_ (scaled_dot ((argsK m c).q h r) (fun d => (argsK m c).k j d) (R.sc h).exp)
    exact Finset.sum_congr rfl fun d _ => congrArg₂ (fun a b : EReal => a * b)
      (congrArg₂ (fun a b : EReal => a * b) (hq d) (congrArg Ideal.exp hsc)) (at4_v11_0 m c j d)
  have hσ' := R.top hσ
  obtain ⟨t, ht, hv⟩ := a σ (by rw [show scoreK _ _ _ h r = _ from e1]; exact hσ')
  refine (congrFun e _).trans (hv.trans ?_)
  rw [show scoreK (found (at4 m) c main_arg5) (found (at4 m) c main_v10) (fun m_1 d => found (at4 m) c main_v3 (ix2 m_1 d)) h r = _ from e1] at ht ⊢
  rw [show scoreK (found (at4 m) c main_arg5) (found (at4 m) c main_v10) (fun m_1 d => found (at4 m) c main_v11_0 (ix2 m_1 d)) h r = _ from e2]
  rw [show (fun j : Fin 8192 => found (at4 m) c main_v9 (ix2 j ⟨d.val, by have := d.isLt; omega⟩)) = fun j => (argsK m c).db j 1 d from funext hv9,
    show (fun j : Fin 2048 => found (at4 m) c main_v14 (ix2 j ⟨d.val, by have := d.isLt; omega⟩)) = fun j => (argsK m c).v j d from
      funext fun j => at4_v14 m c j d]
  exact rowK_eq_rowR _ σ (R.memS hσ) hσ'.inj t ht _ _ (R.locS h r) r _

/-- An entry of the kernel's result. -/
theorem kernel_entry (R : (argsK m c).Tame) (σ : Fin 16 → Fin 2048 → Fin 32 → Fin 8192) (hσ : ∀ h r, Top32 ((argsK m c).sim h r) (σ h r))
    (r : Fin 2048) (e : Fin 1024) :
    (V8 m (outs m) c main_v18 : S1x2048x1024.Idx → EReal) (ix3 0 r e) = (argsK m c).out σ r e := by
  refine (host_v18 _ r e).trans ?_
  have e7 : V7 m (outs m) c main_v17 = (dat3 (found (at6 m)) c).arrAt 4 cfg3.N :=
    (congrFun (after3_eq m c).symm _).trans (afterRegion_arr (dat3 (found (at6 m)) c) (at6 m c) launch3.win.arr_inj 4)
  refine (congrFun (e7.trans (arr3 (found (at6 m)) c)) _).trans ?_
  unfold Args.out outEntry headOut
  have e0 : at6 m c main_v0 = V1 m c main_v0 := at6_host m c main_v0 (by decide) (by decide) (by decide) (by decide) (by decide)
  have e4 : at6 m c main_arg4 = m (c, Proc.devRef .tc main_arg4) :=
    (at6_host m c main_arg4 (by decide) (by decide) (by decide) (by decide) (by decide)).trans (V1_of m c main_arg4 (by decide))
  refine congrArg₂ (fun a b : EReal => a + b) ((congrFun e0 _).trans (at1_v0 m c r e)) (congrArg₂ (fun a b : EReal => a * b) ?_ (congrArg Ideal.tanh ?_))
  · exact Finset.sum_congr rfl fun h _ => Finset.sum_congr rfl fun d _ => congrArg₂ (fun a b : EReal => a * b)
      (at6_v15 m c h r d R (σ h r) (hσ h r)) (congrFun e4 _)
  · refine (host_v16 _).trans ?_
    exact congrFun ((V5_of m _ c main_arg6 (by decide)).trans ((V4_of m _ c main_arg6 (by decide)).trans ((V3_of m _ c main_arg6 (by decide)).trans
      ((V2_of m _ c main_arg6 (by decide)).trans (V1_of m c main_arg6 (by decide)))))) _

end Cert.Proof

end
-- ==== Proof.PreFacts.lean ====
/-
  The shape relations the precondition's operations take, proved: each by computation on literal shapes.
-/
module

public import proofs.«01_k».proof.Pre_scores_distinct

@[expose] public section

namespace Cert.Proof

open Cert.Pre_scores_distinct

/-- The side conditions of `scores_distinct`. -/
theorem preFacts : Cert.Pre_scores_distinct.Facts where
  shapeCasts_S1x2048x1024_S1x2048x16x64 := by decide
  transposes_S1x2048x16x64_S1x16x2048x64_0_2_1_3 := by decide
  reducesTo_S1x16x2048x64_S1x16x2048_d3 := by decide
  h_S_ := by decide
  bcast_S1x16x2048_S1x16x2048x1_0_1_2 := by decide
  bcast_S_S1x16x2048x1 := by decide
  bcast_S1x16x2048x1_S1x16x2048x64_0_1_2_3 := by decide
  slices_S1x8192x2x64_S1x8192x1x64_0_0_0_0 := by decide
  shapeCasts_S1x8192x1x64_S1x8192x64 := by decide
  sliceFits_S1x16x2048x8192_S1x16x2048x33 := by decide
  bcast_S_S16x1x1 := by decide
  bcast_S_S1x16x2048x33 := by decide
  slices_S1x16x2048x33_S1x16x2048x32_0_0_0_0 := by decide
  slices_S1x16x2048x33_S1x16x2048x32_0_0_0_1 := by decide
  dot_S1x2048x1024_S1024x1024_S1x2048x1024_2_0_01_1_n_n_wf := by decide
  dot_S1x16x2048x64_S1x8192x64_S1x16x2048x8192_3_2_12_1_0_0_wf := by decide

end Cert.Proof

end
-- ==== Proof.RefValue.lean ====
/-
  The reference's result, read entry by entry.

  Its top-k sorts each row of similarities in descending order (`order`), so the rows it retrieves are `Args.top`. Every start
  index is in range, so each gather reads the retrieved row. The rest is the softmax over the retrieved and the causal
  scores, and the two products after it; the last theorem states the result as `Args.out`.
-/
module

public import proofs.«01_k».proof.Proof.Gen.ReferenceIdeal.Read
public import proofs.«01_k».proof.Proof.Spec
public import proofs.«01_k».proof.Proof.Select
public import Idealize.ShloMosaic.Lib.Pointwise

@[expose] public section

noncomputable section

namespace Cert.Proof

open Idealize.ShloMosaic
open Cert.ReferenceIdeal Cert.ReferenceIdeal.Facts₀

/-- The stable descending order of a row: position `i` of the sorted row holds entry `order f i`. -/
def order {n : ℕ} (f : Fin n → EReal) : Fin n → Fin n := sortedFrom fun a b => decide (f b < f a)

/-- Replacing the last coordinate of a rank-4 index. -/
theorem along_ix4 {a b c n : ℕ} (i : Fin a) (j : Fin b) (k : Fin c) (m m' : Fin n) :
    Shape.Idx.along (s := ⟨4, ![a, b, c, n]⟩) (ix4 i j k m) 3 m' = ix4 i j k m' := by
  funext e
  match e with
  | ⟨0, _⟩ => rfl
  | ⟨1, _⟩ => rfl
  | ⟨2, _⟩ => rfl
  | ⟨3, _⟩ => rfl

/-- The comparison of the top-k operation is the order of the extended reals. -/
theorem gt_eq (a b : EReal) : (FloatOps.cmpfTotal (F := Ideal) (φ := .f32) .gt a b == 1#1) = decide (b < a) := by
  show (BitVec.ofBool (decide (b < a)) == 1#1) = _
  by_cases h : b < a <;> simp [h]

/-- The last coordinate of an index after replacing it, as a word. -/
theorem iota_along (i : S1x16x2048x8192.Idx) (m : Fin 8192) :
    (if hd : 3 < S1x16x2048x8192.rank then iotaInDim S1x16x2048x8192 32 ⟨3, hd⟩ (i.along 3 m) else 0#32)
      = BitVec.ofNat 32 m.val := by
  rw [dif_pos (show 3 < S1x16x2048x8192.rank by decide)]
  show BitVec.ofNat 32 ((i.along 3 m) 3).val = _
  exact congrArg (fun m : Fin 8192 => BitVec.ofNat 32 m.val) (Function.update_self (β := S1x16x2048x8192.Coord) 3 m i)

section TopK

variable (K : ℕ) (hK : K ≤ 8192) (x : S1x16x2048x8192.Idx → EReal)
  (fits : S1x16x2048x8192.Slices (fun _ => 0) ⟨4, ![1, 16, 2048, K]⟩) (h : Fin 16) (r : Fin 2048) (k : Fin K)

/-- The sorted position of the top-k operation at an index. -/
theorem topK_pos : (sortedFrom (fun m m' => FloatOps.cmpfTotal (F := Ideal) (φ := .f32) .gt
      (x (Shape.Idx.along (s := S1x16x2048x8192) (ix4 0 h r (k.castLE hK)) 3 m))
      (x (Shape.Idx.along (s := S1x16x2048x8192) (ix4 0 h r (k.castLE hK)) 3 m')) == 1#1) (k.castLE hK) : Fin 8192)
      = order (fun m => x (ix4 0 h r m)) (k.castLE hK) := by
  unfold order
  congr 1
  funext m m'
  rw [gt_eq, along_ix4, along_ix4]

/-- The `k`-th greatest value of a row is the row's entry at position `k` of its descending order. -/
theorem topK_values :
    (Host.topK ⟨4, ![1, 16, 2048, K]⟩ 3 (FloatOps.cmpfTotal (F := Ideal) (φ := .f32) .gt) x fits).1 (ix4 0 h r k)
      = x (ix4 0 h r (order (fun m => x (ix4 0 h r m)) (k.castLE hK))) := by
  unfold Host.topK
  dsimp only
  refine (extractStridedSlice_apply (s := S1x16x2048x8192) (fun _ => 0) _ fits (ix4 0 h r k) (ix4 0 h r (k.castLE hK)) ?_).trans ?_
  · intro a
    match a with
    | ⟨0, _⟩ => rfl
    | ⟨1, _⟩ => exact (Nat.zero_add _).symm
    | ⟨2, _⟩ => exact (Nat.zero_add _).symm
    | ⟨3, _⟩ => exact (Nat.zero_add _).symm
  · unfold Host.sort2
    rw [dif_pos (show 3 < S1x16x2048x8192.rank by decide)]
    refine Eq.trans ?_ (congrArg x (along_ix4 0 h r (k.castLE hK) _))
    rw [← topK_pos K hK x h r k]
    rfl

/-- Its index is that position, as a word. -/
theorem topK_indices :
    (Host.topK ⟨4, ![1, 16, 2048, K]⟩ 3 (FloatOps.cmpfTotal (F := Ideal) (φ := .f32) .gt) x fits).2 (ix4 0 h r k)
      = BitVec.ofNat 32 (order (fun m => x (ix4 0 h r m)) (k.castLE hK)).val := by
  unfold Host.topK
  dsimp only
  refine (extractStridedSlice_apply (s := S1x16x2048x8192) (fun _ => 0) _ fits (ix4 0 h r k) (ix4 0 h r (k.castLE hK)) ?_).trans ?_
  · intro a
    match a with
    | ⟨0, _⟩ => rfl
    | ⟨1, _⟩ => exact (Nat.zero_add _).symm
    | ⟨2, _⟩ => exact (Nat.zero_add _).symm
    | ⟨3, _⟩ => exact (Nat.zero_add _).symm
  · unfold Host.sort2
    rw [dif_pos (show 3 < S1x16x2048x8192.rank by decide)]
    exact (iota_along _ _).trans (congrArg (fun m : Fin 8192 => BitVec.ofNat 32 m.val) (topK_pos K hK x h r k))

end TopK

/-- Gathering rows of 64 entries by one index per row. -/
theorem gather_rows (x : S1x8192x64.Idx → EReal) (idx : IVec S16x2048x32x1 32) (h : Fin 16) (r : Fin 2048) (k : Fin 32) (d : Fin 64) :
    Host.gather gather_S1x8192x64_S16x2048x32x1_S1x16x2048x32x64_04_1_n_n_1_3_1164 x idx (ix5 0 h r k d)
      = x (ix3 0 ⟨min (idx (ix4 h r k 0)).toInt.toNat 8191, by omega⟩ d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  have kept : ∀ b : Fin 3, b ≠ 1 → b ∈ GatherDims.sKept
      gather_S1x8192x64_S16x2048x32x1_S1x16x2048x32x64_04_1_n_n_1_3_1164 := fun b hb =>
    (GatherDims.mem_sKept _ _).mpr ⟨fun h => hb (List.mem_singleton.mp h), List.not_mem_nil⟩
  have still : ∀ b : Fin 3, b ≠ 1 → GatherDims.start
      gather_S1x8192x64_S16x2048x32x1_S1x16x2048x32x64_04_1_n_n_1_3_1164 (ix5 0 h r k d) idx b = 0 := fun b hb => by
    unfold GatherDims.start
    exact dif_neg fun h => hb (List.mem_singleton.mp h)
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [still 0 (by decide)]
    unfold GatherDims.offCoord
    rw [dif_pos (kept 0 (by decide))]
    rfl
  · rw [GatherDims.offCoord_eq_zero _ _ _ (fun h => ((GatherDims.mem_sKept _ _).mp h).1 (List.mem_singleton.mpr rfl))]
    unfold GatherDims.start
    rw [dif_pos (show (1 : Fin 3) ∈ GatherDims.startIndexMap
      gather_S1x8192x64_S16x2048x32x1_S1x16x2048x32x64_04_1_n_n_1_3_1164 from List.mem_singleton.mpr rfl)]
    have hsi : GatherDims.siIdx gather_S1x8192x64_S16x2048x32x1_S1x16x2048x32x64_04_1_n_n_1_3_1164 (ix5 0 h r k d)
        ⟨List.idxOf (1 : Fin 3) (GatherDims.startIndexMap
          gather_S1x8192x64_S16x2048x32x1_S1x16x2048x32x64_04_1_n_n_1_3_1164),
          List.idxOf_lt_length_iff.2 (List.mem_singleton.mpr rfl)⟩ = ix4 h r k 0 := by
      funext b
      refine Fin.ext ?_
      match b with
      | ⟨0, _⟩ => rfl
      | ⟨1, _⟩ => rfl
      | ⟨2, _⟩ => rfl
      | ⟨3, _⟩ => rfl
    rw [hsi]
    rfl
  · rw [still 2 (by decide)]
    unfold GatherDims.offCoord
    rw [dif_pos (kept 2 (by decide))]
    exact Nat.zero_add _

/-- The entries of the seven arrays. -/
def argsR (x0 : FVec Ideal S1x2048x1024 .f32) (x1 : FVec Ideal S1x8192x2x64 .f32) (x2 : FVec Ideal S1024x1024 .f32)
    (x3 : FVec Ideal S1024x128 .f32) (x4 : FVec Ideal S1024x1024 .f32) (x5 : FVec Ideal S16x1x1 .f32) (x6 : FVec Ideal S1 .f32) :
    Args where
  x r k := x0 (ix3 0 r k)
  db j p d := x1 (ix4 0 j p d)
  wq k n := x2 (ix2 k n)
  wkv k n := x3 (ix2 k n)
  wo k n := x4 (ix2 k n)
  sc h := x5 (ix3 h 0 0)
  g := x6 (ix1 0)

section Reads

variable (x0 : FVec Ideal S1x2048x1024 .f32) (x1 : FVec Ideal S1x8192x2x64 .f32) (x2 : FVec Ideal S1024x1024 .f32)
  (x3 : FVec Ideal S1024x128 .f32) (x4 : FVec Ideal S1024x1024 .f32) (x5 : FVec Ideal S16x1x1 .f32) (x6 : FVec Ideal S1 .f32)

/-- A quotient of a row entry by its clipped norm is the unit row's entry. -/
theorem unit_of (v : Fin 64 → EReal) (w : EReal) (d : Fin 64) (hw : w = v d) :
    Ideal.div w (max eps (Ideal.sqrt (∑ e, v e * v e))) = unitRow eps v d := by
  subst hw
  exact congrArg (Ideal.div (v d)) (max_comm _ _)

/-- The reference's unit queries. -/
theorem ref_q (h : Fin 16) (r : Fin 2048) (d : Fin 64) :
    (Read.val_main_v9 (F := Ideal) x0 x2 : S1x16x2048x64.Idx → EReal) (ix4 0 h r d) = (argsR x0 x1 x2 x3 x4 x5 x6).q h r d := by
  pointwise [Read.val_main_v9, Read.val_main_v8, Read.val_main_v7, Read.val_main_v6, Read.val_main_call0_v2, Read.val_main_call0_v1, Read.val_main_call0_v0, Read.val_main_v2, Read.val_main_v1, Read.val_main_v0, Read.val_main_call1_v1, Read.val_main_call1_v0, Read.val_main_cst, Read.val_main_call0_cst]
  have e : ∀ d : Fin 64, (⟨h.val * 64 + d.val, by have := h.isLt; have := d.isLt; omega⟩ : Fin 1024) = Args.col h d := fun d =>
    Fin.ext (by show h.val * 64 + d.val = 64 * h.val + d.val; omega)
  simp only [e]
  exact unit_of (fun d => ∑ k : Fin 1024, (argsR x0 x1 x2 x3 x4 x5 x6).x r k * (argsR x0 x1 x2 x3 x4 x5 x6).wq k (Args.col h d)) _ d rfl

/-- The reference's unit keys. -/
theorem ref_k (j : Fin 2048) (d : Fin 64) :
    (Read.val_main_v13 (F := Ideal) x0 x3 : S1x2048x64.Idx → EReal) (ix3 0 j d) = (argsR x0 x1 x2 x3 x4 x5 x6).k j d := by
  pointwise [Read.val_main_v13, Read.val_main_v12, Read.val_main_v11, Read.val_main_v10, Read.val_main_call2_v2, Read.val_main_call2_v1, Read.val_main_call2_v0, Read.val_main_v4, Read.val_main_v3, Read.val_main_call3_v1, Read.val_main_call3_v0, Read.val_main_cst_0, Read.val_main_call2_cst]
  exact unit_of (fun d => ∑ k : Fin 1024, (argsR x0 x1 x2 x3 x4 x5 x6).x j k * (argsR x0 x1 x2 x3 x4 x5 x6).wkv k ⟨d.val, by have := d.isLt; omega⟩) _ d rfl

/-- The reference's values. -/
theorem ref_v (j : Fin 2048) (d : Fin 64) :
    (Read.val_main_v5 (F := Ideal) x0 x3 : S1x2048x64.Idx → EReal) (ix3 0 j d) = (argsR x0 x1 x2 x3 x4 x5 x6).v j d := by
  pointwise [Read.val_main_v5, Read.val_main_v3]
  rfl

/-- The reference's similarities to the stored keys. -/
theorem ref_sim (h : Fin 16) (r : Fin 2048) (m : Fin 8192) :
    (Read.val_main_v26 (F := Ideal) x0 x1 x2 : S1x16x2048x8192.Idx → EReal) (ix4 0 h r m) = (argsR x0 x1 x2 x3 x4 x5 x6).sim h r m := by
  pointwise [Read.val_main_v26, Read.val_main_v23, Read.val_main_v22]
  refine Finset.sum_congr rfl fun d _ => ?_
  exact congrArg (fun a : EReal => a * (argsR x0 x1 x2 x3 x4 x5 x6).db m 0 d) (ref_q x0 x1 x2 x3 x4 x5 x6 h r d)

/-- The rows retrieved: the 32 first positions of a row of similarities in descending order. -/
def Args.top (A : Args) (h : Fin 16) (r : Fin 2048) (k : Fin 32) : Fin 8192 := order (A.sim h r) (k.castLE (by decide))

/-- The reference's indices. -/
theorem ref_idx (h : Fin 16) (r : Fin 2048) (k : Fin 32) :
    Read.val_main_indices (F := Ideal) x0 x1 x2 (ix4 0 h r k) = BitVec.ofNat 32 ((argsR x0 x1 x2 x3 x4 x5 x6).top h r k).val := by
  refine (topK_indices 32 (by decide) _ _ h r k).trans ?_
  simp only [ref_sim x0 x1 x2 x3 x4 x5 x6]
  rfl

/-- A row's index as a signed word. -/
theorem word_lt (n : Fin 8192) : (BitVec.ofNat 32 n.val).slt 0#32 = false ∧ (0#32).sle (BitVec.ofNat 32 n.val) = true
    ∧ (BitVec.ofNat 32 n.val).sle 8191#32 = true ∧ min (BitVec.ofNat 32 n.val).toInt.toNat 8191 = n.val := by
  have hn := n.isLt
  have e : (BitVec.ofNat 32 n.val).toInt = n.val := by
    rw [BitVec.toInt_eq_toNat_of_lt] <;> simp <;> omega
  refine ⟨?_, ?_, ?_, ?_⟩
  · simp only [BitVec.slt, e]; simp
  · simp only [BitVec.sle, e]; simp
  · simp only [BitVec.sle, e]; simp; omega
  · rw [e]; simp; omega

/-- The start index of a retrieved row: its index, which is not negative and so is not wrapped round. -/
theorem ref_start (h : Fin 16) (r : Fin 2048) (k : Fin 32) :
    (Read.val_main_call6_v5 (F := Ideal) x0 x1 x2) (ix4 h r k 0) = BitVec.ofNat 32 ((argsR x0 x1 x2 x3 x4 x5 x6).top h r k).val := by
  pointwise [Read.val_main_call6_v5, Read.val_main_call6_v4, Read.val_main_call6_v3, Read.val_main_call6_v2, Read.val_main_call6_v1, Read.val_main_call6_v0, Read.val_main_v27, Read.val_main_call6_c, Read.val_main_call6_c_0]
  rw [ref_idx x0 x1 x2 x3 x4 x5 x6]
  unfold Scalar.select
  refine if_neg (show ¬ BitVec.ofBool ((BitVec.ofNat 32 ((argsR x0 x1 x2 x3 x4 x5 x6).top h r k).val).slt 0#32) = 1#1 from ?_)
  rw [(word_lt _).1]
  decide

/-- Every start index is in range. -/
theorem ref_in (h : Fin 16) (r : Fin 2048) (k : Fin 32) :
    (Read.val_main_call6_v13 (F := Ideal) x0 x1 x2) (ix3 h r k) = 1#1 := by
  pointwise [Read.val_main_call6_v13, Read.val_main_call6_v12, Read.val_main_call6_v11, Read.val_main_call6_v10,
    Read.val_main_call6_v9, Read.val_main_call6_v8, Read.val_main_call6_v7, Read.val_main_call6_c_1,
    Read.val_main_call6_c_2, Read.val_main_call6_c_3]
  rw [Finset.univ_unique, Finset.fold_singleton]
  have start := ref_start x0 x1 x2 (fun _ => 0) (fun _ => 0) (fun _ => 0) (fun _ => 0) h r k
  show IntOp.andi (IntOp.andi (BitVec.ofBool ((0#32).sle (Read.val_main_call6_v5 (F := Ideal) x0 x1 x2 (ix4 h r k 0))))
    (BitVec.ofBool ((Read.val_main_call6_v5 (F := Ideal) x0 x1 x2 (ix4 h r k 0)).sle 8191#32))) 1#1 = 1#1
  rw [start, (word_lt _).2.1, (word_lt _).2.2.1]
  rfl

/-- The row gathered for an index, from either half of the stored rows. -/
theorem gathered (y : S1x8192x64.Idx → EReal) (h : Fin 16) (r : Fin 2048) (k : Fin 32) (d : Fin 64) :
    Host.gather gather_S1x8192x64_S16x2048x32x1_S1x16x2048x32x64_04_1_n_n_1_3_1164 y (Read.val_main_call6_v5 (F := Ideal) x0 x1 x2)
      (ix5 0 h r k d) = y (ix3 0 ((argsR x0 x1 x2 x3 x4 x5 x6).top h r k) d) := by
  refine (gather_rows y _ h r k d).trans (congrArg (fun m => y (ix3 0 m d)) (Fin.ext ?_))
  show min _ _ = _
  rw [ref_start x0 x1 x2 x3 x4 x5 x6]
  exact (word_lt _).2.2.2

/-- A selection by a set bit. -/
theorem select_one {α : Type} (a b : α) : Scalar.select 1#1 a b = a := if_pos rfl

/-- The stored keys as a table. -/
theorem key_table (m : Fin 8192) (d : Fin 64) :
    (Read.val_main_call6_v6 (F := Ideal) x1 : S1x8192x64.Idx → EReal) (ix3 0 m d) = x1 (ix4 0 m 0 d) := by
  pointwise [Read.val_main_call6_v6, Read.val_main_v28, Read.val_main_v23, Read.val_main_v22]

/-- The stored values as a table. -/
theorem value_table (m : Fin 8192) (d : Fin 64) :
    (Read.val_main_call7_v6 (F := Ideal) x1 : S1x8192x64.Idx → EReal) (ix3 0 m d) = x1 (ix4 0 m 1 d) := by
  pointwise [Read.val_main_call7_v6, Read.val_main_v30, Read.val_main_v25, Read.val_main_v24]

/-- The keys retrieved. -/
theorem ref_memk (h : Fin 16) (r : Fin 2048) (k : Fin 32) (d : Fin 64) :
    (Read.val_main_v29 (F := Ideal) x0 x1 x2 : S1x16x2048x32x64.Idx → EReal) (ix5 0 h r k d)
      = (argsR x0 x1 x2 x3 x4 x5 x6).db ((argsR x0 x1 x2 x3 x4 x5 x6).top h r k) 0 d := by
  pointwise [Read.val_main_v29, Read.val_main_call6_v15]
  rw [ref_in, select_one]
  unfold Read.val_main_call6_v14
  refine (gathered x0 x1 x2 x3 x4 x5 x6 (Read.val_main_call6_v6 (F := Ideal) x1) h r k d).trans ?_
  exact key_table x1 _ d

/-- The values retrieved: their indices are worked out as the keys' are. -/
theorem ref_memv (h : Fin 16) (r : Fin 2048) (k : Fin 32) (d : Fin 64) :
    (Read.val_main_v31 (F := Ideal) x0 x1 x2 : S1x16x2048x32x64.Idx → EReal) (ix5 0 h r k d)
      = (argsR x0 x1 x2 x3 x4 x5 x6).db ((argsR x0 x1 x2 x3 x4 x5 x6).top h r k) 1 d := by
  pointwise [Read.val_main_v31, Read.val_main_call7_v15]
  rw [show Read.val_main_call7_v13 (F := Ideal) x0 x1 x2 = Read.val_main_call6_v13 (F := Ideal) x0 x1 x2 from rfl, ref_in, select_one]
  unfold Read.val_main_call7_v14
  refine (gathered x0 x1 x2 x3 x4 x5 x6 (Read.val_main_call7_v6 (F := Ideal) x1) h r k d).trans ?_
  exact value_table x1 _ d

/-- The retrieved scores. -/
theorem ref_mems (h : Fin 16) (r : Fin 2048) (k : Fin 32) :
    (Read.val_main_v35 (F := Ideal) x0 x1 x2 x5 : S1x16x2048x32.Idx → EReal) (ix4 0 h r k)
      = (argsR x0 x1 x2 x3 x4 x5 x6).memS h r ((argsR x0 x1 x2 x3 x4 x5 x6).top h r k) := by
  pointwise [Read.val_main_v35, Read.val_main_v34, Read.val_main_v33, Read.val_main_v32, Read.val_main_v14]
  refine congrArg (fun a : EReal => a * Ideal.exp (x5 (ix3 h 0 0))) (@Finset.sum_congr _ EReal _ _ _ _ _ rfl fun d _ => ?_)
  exact congrArg₂ (fun a b : EReal => a * b) (ref_q x0 x1 x2 x3 x4 x5 x6 h r d) (ref_memk x0 x1 x2 x3 x4 x5 x6 h r k d)

/-- A comparison of two positions as words. -/
theorem sge_word (r j : Fin 2048) :
    IntOp.cmpi .sge (IntOp.addi (BitVec.ofNat 32 r.val) 0#32) (BitVec.ofNat 32 j.val) = BitVec.ofBool (decide (j ≤ r)) := by
  have e : ∀ n : Fin 2048, (BitVec.ofNat 32 n.val).toInt = n.val := fun n => by
    have := n.isLt
    rw [BitVec.toInt_eq_toNat_of_lt] <;> simp <;> omega
  show BitVec.ofBool ((BitVec.ofNat 32 j.val).sle (BitVec.ofNat 32 r.val + 0#32)) = _
  rw [BitVec.add_zero]
  simp only [BitVec.sle, e, Nat.cast_le, Fin.le_def]

/-- The causal scores. -/
theorem ref_locs (h : Fin 16) (r j : Fin 2048) :
    (Read.val_main_v21 (F := Ideal) x0 x2 x3 x5 : S1x16x2048x2048.Idx → EReal) (ix4 0 h r j)
      = if j ≤ r then (argsR x0 x1 x2 x3 x4 x5 x6).locS h r j else ⊥ := by
  pointwise [Read.val_main_v21, Read.val_main_call5_v1, Read.val_main_call5_v2, Read.val_main_call5_v0, Read.val_main_cst_1,
    Read.val_main_v20, Read.val_main_call4_v4, Read.val_main_call4_v5, Read.val_main_call4_v3, Read.val_main_call4_v2,
    Read.val_main_call4_v1, Read.val_main_call4_v0, Read.val_main_call4_c, Read.val_main_call4_c_0, Read.val_main_v19, Read.val_main_c,
    Read.val_main_v18, Read.val_main_v17, Read.val_main_v16, Read.val_main_v15, Read.val_main_v14]
  rw [sge_word]
  by_cases l : j ≤ r
  · rw [if_pos l, decide_eq_true l]
    refine (congrArg (fun a : EReal => a * Ideal.exp (x5 (ix3 h 0 0))) (@Finset.sum_congr _ EReal _ _ _ _ _ rfl fun d _ => ?_) :)
    exact congrArg₂ (fun a b : EReal => a * b) (ref_q x0 x1 x2 x3 x4 x5 x6 h r d) (ref_k x0 x1 x2 x3 x4 x5 x6 j d)
  · rw [if_neg l, decide_eq_false l]
    exact ofBits_bot

/-- An entry of a joined row. -/
theorem append_apply {m n : ℕ} {α : Type} (f : Fin m → α) (g : Fin n → α) (c : Fin (m + n)) :
    Fin.append f g c = if h : c.val < m then f ⟨c.val, h⟩ else g ⟨c.val - m, by have := c.isLt; omega⟩ := by
  refine Fin.addCases (fun i => ?_) (fun i => ?_) c
  · rw [Fin.append_left, dif_pos (show (Fin.castAdd n i).val < m from i.isLt)]
    rfl
  · rw [Fin.append_right, dif_neg (show ¬ (Fin.natAdd m i).val < m from by simp)]
    refine congrArg g (Fin.ext ?_)
    show i.val = m + i.val - m
    omega

/-- The row of scores: retrieved, then causal. -/
theorem ref_row (h : Fin 16) (r : Fin 2048) :
    (fun c => (Read.val_main_v36 (F := Ideal) x0 x1 x2 x3 x5 : S1x16x2048x2080.Idx → EReal) (ix4 0 h r c))
      = rowW (fun k => (argsR x0 x1 x2 x3 x4 x5 x6).memS h r ((argsR x0 x1 x2 x3 x4 x5 x6).top h r k)) ((argsR x0 x1 x2 x3 x4 x5 x6).locS h r) r := by
  funext c
  unfold rowW
  pointwise [Read.val_main_v36]
  refine Eq.trans ?_ (append_apply (m := 32) (n := 2048) _ _ c).symm
  by_cases l : c.val < 32
  · rw [dif_pos l, dif_pos l]
    exact ref_mems x0 x1 x2 x3 x4 x5 x6 h r ⟨c.val, l⟩
  · rw [dif_neg l, dif_neg l]
    exact ref_locs x0 x1 x2 x3 x4 x5 x6 h r ⟨c.val - 32, by have := c.isLt; omega⟩

/-- A maximum with minus infinity. -/
theorem max_bot_left (y : S1x16x2048.Idx → EReal) (i : S1x16x2048.Idx) :
    (maximumf (F := Ideal) (φ := .f32) (Read.val_main_v38 (F := Ideal)) y : S1x16x2048.Idx → EReal) i = y i := by
  pointwise [Read.val_main_v38, Read.val_main_cst_3]
  rw [ofBits_bot, max_eq_right bot_le]

/-- The reference's maximum of its row of scores. -/
theorem ref_max (h : Fin 16) (r : Fin 2048) :
    (Read.val_main_v39 (F := Ideal) x0 x1 x2 x3 x5 : S1x16x2048.Idx → EReal) (ix3 0 h r)
      = rowMax (fun c : Fin 2080 => (Read.val_main_v36 (F := Ideal) x0 x1 x2 x3 x5 : S1x16x2048x2080.Idx → EReal) (ix4 0 h r c)) := by
  unfold Read.val_main_v39
  refine (max_bot_left _ _).trans ?_
  unfold Read.val_main_v37
  generalize Read.val_main_v36 (F := Ideal) x0 x1 x2 x3 x5 = y
  pointwise [Read.val_main_cst_2]
  rw [ofBits_bot]
  rfl

/-- The exponentials the softmax adds up. -/
theorem ref_exp (h : Fin 16) (r : Fin 2048) (c : Fin 2080) :
    (Read.val_main_v43 (F := Ideal) x0 x1 x2 x3 x5 : S1x16x2048x2080.Idx → EReal) (ix4 0 h r c)
      = Ideal.exp ((Read.val_main_v36 (F := Ideal) x0 x1 x2 x3 x5 : S1x16x2048x2080.Idx → EReal) (ix4 0 h r c)
          - rowMax (fun c : Fin 2080 => (Read.val_main_v36 (F := Ideal) x0 x1 x2 x3 x5 : S1x16x2048x2080.Idx → EReal) (ix4 0 h r c))) := by
  rw [← ref_max x0 x1 x2 x3 x5 h r]
  unfold Read.val_main_v43 Read.val_main_v42 Read.val_main_v41 Read.val_main_v40
  generalize Read.val_main_v36 (F := Ideal) x0 x1 x2 x3 x5 = y
  generalize Read.val_main_v39 (F := Ideal) x0 x1 x2 x3 x5 = z
  pointwise []

/-- The reference's weights over its row of scores. -/
theorem ref_soft (h : Fin 16) (r : Fin 2048) (c : Fin 2080) :
    (Read.val_main_v47 (F := Ideal) x0 x1 x2 x3 x5 : S1x16x2048x2080.Idx → EReal) (ix4 0 h r c)
      = weightR (fun c : Fin 2080 => (Read.val_main_v36 (F := Ideal) x0 x1 x2 x3 x5 : S1x16x2048x2080.Idx → EReal) (ix4 0 h r c)) c := by
  unfold weightR
  simp only [← ref_exp x0 x1 x2 x3 x5 h r]
  unfold Read.val_main_v47 Read.val_main_v46 Read.val_main_v45 Read.val_main_v44
  generalize Read.val_main_v43 (F := Ideal) x0 x1 x2 x3 x5 = y
  pointwise [Read.val_main_cst_4]

/-- The reference's weights. -/
theorem ref_weight (h : Fin 16) (r : Fin 2048) (c : Fin (32 + 2048)) :
    (Read.val_main_v47 (F := Ideal) x0 x1 x2 x3 x5 : S1x16x2048x2080.Idx → EReal) (ix4 0 h r c)
      = weightR (rowW (fun k => (argsR x0 x1 x2 x3 x4 x5 x6).memS h r ((argsR x0 x1 x2 x3 x4 x5 x6).top h r k))
          ((argsR x0 x1 x2 x3 x4 x5 x6).locS h r) r) c :=
  (ref_soft x0 x1 x2 x3 x5 h r c).trans (congrArg (fun w : Fin (32 + 2048) → EReal => weightR w c) (ref_row x0 x1 x2 x3 x4 x5 x6 h r))

/-- The reference's attention. -/
theorem ref_head (h : Fin 16) (r : Fin 2048) (d : Fin 64) :
    (Read.val_main_v52 (F := Ideal) x0 x1 x2 x3 x5 : S1x16x2048x64.Idx → EReal) (ix4 0 h r d)
      = (argsR x0 x1 x2 x3 x4 x5 x6).head ((argsR x0 x1 x2 x3 x4 x5 x6).top h r) h r d := by
  pointwise [Read.val_main_v52, Read.val_main_v51, Read.val_main_v50, Read.val_main_v49, Read.val_main_v48]
  refine congrArg₂ (fun a b : EReal => a + b) (@Finset.sum_congr _ EReal _ _ _ _ _ rfl fun j _ => ?_)
    (@Finset.sum_congr _ EReal _ _ _ _ _ rfl fun k _ => ?_)
  · exact congrArg₂ (fun a b : EReal => a * b) (ref_weight x0 x1 x2 x3 x4 x5 x6 h r (Fin.natAdd 32 j))
      (ref_v x0 x1 x2 x3 x4 x5 x6 j d)
  · exact congrArg₂ (fun a b : EReal => a * b) (ref_weight x0 x1 x2 x3 x4 x5 x6 h r (Fin.castAdd 2048 k))
      (ref_memv x0 x1 x2 x3 x4 x5 x6 h r k d)

/-- A sum over all columns, head by head. -/
theorem sum_cols (f : Fin 16 → Fin 64 → Fin 1024 → EReal) :
    ∑ x : Fin 1024, f ⟨x.val / 64, by have := x.isLt; omega⟩ ⟨x.val % 64, Nat.mod_lt _ (by decide)⟩ x
      = ∑ h : Fin 16, ∑ d : Fin 64, f h d (Args.col h d) := by
  rw [← Fintype.sum_prod_type' (f := fun h d => f h d (Args.col h d))]
  refine Fintype.sum_equiv (finProdFinEquiv (m := 16) (n := 64)).symm _ _ fun x => ?_
  have e : ∀ x : Fin 1024, Args.col ⟨x.val / 64, by have := x.isLt; omega⟩ ⟨x.val % 64, Nat.mod_lt _ (by decide)⟩ = x := fun x =>
    Fin.ext (Nat.div_add_mod x.val 64)
  exact congrArg (f _ _) (e x).symm

/-- The reference's result. -/
theorem ref_out (r : Fin 2048) (e : Fin 1024) :
    (Read.val_main_v60 (F := Ideal) x0 x1 x2 x3 x4 x5 x6 : S1x2048x1024.Idx → EReal) (ix3 0 r e)
      = (argsR x0 x1 x2 x3 x4 x5 x6).out (argsR x0 x1 x2 x3 x4 x5 x6).top r e := by
  pointwise [Read.val_main_v60, Read.val_main_v59, Read.val_main_v58, Read.val_main_v57, Read.val_main_v56, Read.val_main_v55,
    Read.val_main_v54, Read.val_main_v53]
  refine congrArg (fun a : EReal => x0 (ix3 0 r e) + a * Ideal.tanh (x6 (ix1 0))) ?_
  refine (sum_cols fun h d x => (Read.val_main_v52 (F := Ideal) x0 x1 x2 x3 x5 : S1x16x2048x64.Idx → EReal) (ix4 0 h r d) * x4 (ix2 x e)).trans ?_
  refine @Finset.sum_congr _ EReal _ _ _ _ _ rfl fun h _ => @Finset.sum_congr _ EReal _ _ _ _ _ rfl fun d _ => ?_
  exact congrArg (fun a : EReal => a * x4 (ix2 (Args.col h d) e)) (ref_head x0 x1 x2 x3 x4 x5 x6 h r d)

end Reads

end Cert.Proof

end
-- ==== Proof.PreValue.lean ====
/-
  What the precondition says: the scales are finite, and each row's 33 greatest similarities are below plus infinity and
  strictly descending, so the reference's 32 retrieved rows are the 32 greatest and no other row ties with them.
-/
module

public import proofs.«01_k».proof.Proof.PreFacts
public import proofs.«01_k».proof.Proof.RefValue

@[expose] public section

noncomputable section

namespace Cert.Proof

open Idealize.ShloMosaic
open Cert.ReferenceIdeal

section Pre

variable (x0 : FVec Ideal S1x2048x1024 .f32) (x1 : FVec Ideal S1x8192x2x64 .f32) (x2 : FVec Ideal S1024x1024 .f32)
  (x3 : FVec Ideal S1024x128 .f32) (x4 : FVec Ideal S1024x1024 .f32) (x5 : FVec Ideal S16x1x1 .f32) (x6 : FVec Ideal S1 .f32)

/-- The similarities the precondition bounds are the reference's, sorted. -/
theorem pre_bound [h : Cert.Pre_scores_distinct.Facts] :
    (Cert.Pre_scores_distinct.fn (F := Ideal) x0 x1 x2 x3 x4 x5 x6).2.1
      = cmpf (F := Ideal) (φ := .f32) .olt (Host.topK Cert.Pre_scores_distinct.S1x16x2048x33 3
            (FloatOps.cmpfTotal (F := Ideal) (φ := .f32) .gt) (Read.val_main_v26 (F := Ideal) x0 x1 x2) h.sliceFits_S1x16x2048x8192_S1x16x2048x33).1
          (broadcastInDim Cert.Pre_scores_distinct.S1x16x2048x33 ![] h.bcast_S_S1x16x2048x33 (constant S_ .f32 0x7F800000#32)) := rfl

/-- The similarities the precondition compares with one another are the reference's, sorted. -/
theorem pre_order [h : Cert.Pre_scores_distinct.Facts] :
    (Cert.Pre_scores_distinct.fn (F := Ideal) x0 x1 x2 x3 x4 x5 x6).2.2
      = cmpf .ogt
          (extractStridedSlice S1x16x2048x32 ![0, 0, 0, 0] (Host.topK Cert.Pre_scores_distinct.S1x16x2048x33 3
            (FloatOps.cmpfTotal (F := Ideal) (φ := .f32) .gt) (Read.val_main_v26 (F := Ideal) x0 x1 x2) h.sliceFits_S1x16x2048x8192_S1x16x2048x33).1
            h.slices_S1x16x2048x33_S1x16x2048x32_0_0_0_0)
          (extractStridedSlice S1x16x2048x32 ![0, 0, 0, 1] (Host.topK Cert.Pre_scores_distinct.S1x16x2048x33 3
            (FloatOps.cmpfTotal (F := Ideal) (φ := .f32) .gt) (Read.val_main_v26 (F := Ideal) x0 x1 x2) h.sliceFits_S1x16x2048x8192_S1x16x2048x33).1
            h.slices_S1x16x2048x33_S1x16x2048x32_0_0_0_1) := rfl

/-- Plus infinity, as the precondition writes it. -/
theorem ofBits_top : Ideal.ofBits .f32 0x7F800000#32 = ⊤ := by simp [Ideal.ofBits, Ideal.ieee]

/-- An array whose entries are all below plus infinity in absolute value is real. -/
theorem real_of_finite {s : Shape} (x : s.Idx → EReal) (b : S_.BroadcastsInDim s (![] : Fin 0 → Fin s.rank))
    (e : cmpf (F := Ideal) (φ := .f32) .olt (Host.absf x) (broadcastInDim s ![] b (constant S_ .f32 0x7F800000#32)) = fun _ => 1#1)
    (i : s.Idx) : IsReal (x i) := by
  have e' : BitVec.ofBool (decide (max (x i) (-(x i)) < Ideal.ofBits .f32 0x7F800000#32)) = 1#1 := congrFun e i
  rw [ofBits_top] at e'
  by_cases n : max (x i) (-(x i)) < ⊤
  · exact isReal_of_abs n
  · rw [decide_eq_false n] at e'
    exact absurd e' (by decide)

/-- The first 32 positions of the descending order are the 32 greatest entries, when the first 33 entries strictly descend. -/
theorem top32_of_order {n : ℕ} (f : Fin n → EReal) (h33 : 33 ≤ n)
    (hs : ∀ k : ℕ, ∀ h : k < 32, f (order f ⟨k + 1, by omega⟩) < f (order f ⟨k, by omega⟩)) :
    Top32 f (fun k => order f (k.castLE (by omega))) :=
  top32_of_sort f (fun a b => decide (f b < f a)) (fun _ _ => decide_eq_true_iff) h33 hs

variable [hF : Cert.Pre_scores_distinct.Facts]

/-- The precondition of the arguments: each of its comparisons holds everywhere. -/
structure PreHolds : Prop where
  sc : (Cert.Pre_scores_distinct.fn (F := Ideal) x0 x1 x2 x3 x4 x5 x6).1 = fun _ => 1#1
  bound : (Cert.Pre_scores_distinct.fn (F := Ideal) x0 x1 x2 x3 x4 x5 x6).2.1 = fun _ => 1#1
  desc : (Cert.Pre_scores_distinct.fn (F := Ideal) x0 x1 x2 x3 x4 x5 x6).2.2 = fun _ => 1#1

variable {x0 x1 x2 x3 x4 x5 x6}

/-- A sorted similarity, as the precondition takes it. -/
theorem pre_value (h : Fin 16) (r : Fin 2048) (k : Fin 33) :
    (Host.topK Cert.Pre_scores_distinct.S1x16x2048x33 3 (FloatOps.cmpfTotal (F := Ideal) (φ := .f32) .gt)
      (Read.val_main_v26 (F := Ideal) x0 x1 x2) hF.sliceFits_S1x16x2048x8192_S1x16x2048x33).1 (ix4 0 h r k)
      = (argsR x0 x1 x2 x3 x4 x5 x6).sim h r (order ((argsR x0 x1 x2 x3 x4 x5 x6).sim h r) (k.castLE (by omega))) := by
  have row : (fun m => (Read.val_main_v26 (F := Ideal) x0 x1 x2 : S1x16x2048x8192.Idx → EReal) (ix4 0 h r m))
      = (argsR x0 x1 x2 x3 x4 x5 x6).sim h r := funext (ref_sim x0 x1 x2 x3 x4 x5 x6 h r)
  refine (topK_values 33 (by omega) _ _ h r k).trans ?_
  rw [row]
  exact ref_sim x0 x1 x2 x3 x4 x5 x6 h r _

/-- Under the precondition the 33 greatest similarities of a row are below plus infinity. -/
theorem PreHolds.below (p : PreHolds x0 x1 x2 x3 x4 x5 x6) (h : Fin 16) (r : Fin 2048) (k : Fin 33) :
    (argsR x0 x1 x2 x3 x4 x5 x6).sim h r (order ((argsR x0 x1 x2 x3 x4 x5 x6).sim h r) (k.castLE (by omega))) < ⊤ := by
  have e := congrFun ((pre_bound x0 x1 x2 x3 x4 x5 x6).symm.trans p.bound) (ix4 0 h r k)
  have val := pre_value (x0 := x0) (x1 := x1) (x2 := x2) (x3 := x3) (x4 := x4) (x5 := x5) (x6 := x6) h r k
  generalize (Host.topK Cert.Pre_scores_distinct.S1x16x2048x33 3 (FloatOps.cmpfTotal (F := Ideal) (φ := .f32) .gt)
      (Read.val_main_v26 (F := Ideal) x0 x1 x2) hF.sliceFits_S1x16x2048x8192_S1x16x2048x33).1 = T at e val
  have e' : BitVec.ofBool (decide (T (ix4 0 h r k) < Ideal.ofBits .f32 0x7F800000#32)) = 1#1 := e
  rw [ofBits_top] at e'
  by_cases l : T (ix4 0 h r k) < ⊤
  · exact lt_of_eq_of_lt val.symm l
  · rw [decide_eq_false l] at e'
    exact absurd e' (by decide)

/-- Under the precondition the 33 greatest similarities of a row are strictly descending. -/
theorem PreHolds.descending (p : PreHolds x0 x1 x2 x3 x4 x5 x6) (h : Fin 16) (r : Fin 2048) (n : ℕ) (hn : n < 32) :
    (argsR x0 x1 x2 x3 x4 x5 x6).sim h r (order ((argsR x0 x1 x2 x3 x4 x5 x6).sim h r) ⟨n + 1, by omega⟩)
      < (argsR x0 x1 x2 x3 x4 x5 x6).sim h r (order ((argsR x0 x1 x2 x3 x4 x5 x6).sim h r) ⟨n, by omega⟩) := by
  have e := congrFun ((pre_order x0 x1 x2 x3 x4 x5 x6).symm.trans p.desc) (ix4 0 h r ⟨n, hn⟩)
  have val := pre_value (x0 := x0) (x1 := x1) (x2 := x2) (x3 := x3) (x4 := x4) (x5 := x5) (x6 := x6) h r
  generalize (Host.topK Cert.Pre_scores_distinct.S1x16x2048x33 3 (FloatOps.cmpfTotal (F := Ideal) (φ := .f32) .gt)
      (Read.val_main_v26 (F := Ideal) x0 x1 x2) hF.sliceFits_S1x16x2048x8192_S1x16x2048x33).1 = T at e val
  pointwise [] at e
  by_cases l : T (ix4 0 h r ⟨1 + n, by omega⟩) < T (ix4 0 h r ⟨n, by omega⟩)
  · rw [val, val] at l
    refine lt_of_eq_of_lt (congrArg (fun i => (argsR x0 x1 x2 x3 x4 x5 x6).sim h r (order ((argsR x0 x1 x2 x3 x4 x5 x6).sim h r) i))
      (Fin.ext (Nat.add_comm n 1))) l
  · rw [decide_eq_false l] at e
    exact absurd e (by decide)

/-- Under the precondition the rows retrieved are the 32 greatest. -/
theorem PreHolds.top (p : PreHolds x0 x1 x2 x3 x4 x5 x6) (h : Fin 16) (r : Fin 2048) :
    Top32 ((argsR x0 x1 x2 x3 x4 x5 x6).sim h r) ((argsR x0 x1 x2 x3 x4 x5 x6).top h r) := by
  have t := top32_of_order ((argsR x0 x1 x2 x3 x4 x5 x6).sim h r) (by omega) (p.descending h r)
  unfold Args.top
  exact t

/-- Under the precondition the scales are real and no similarity is plus infinity. -/
theorem PreHolds.tame (p : PreHolds x0 x1 x2 x3 x4 x5 x6) : (argsR x0 x1 x2 x3 x4 x5 x6).Tame where
  sc h := real_of_finite x5 hF.bcast_S_S16x1x1 p.sc (ix3 h 0 0)
  lt h r m := by
    have up : ∀ k : Fin 32, (argsR x0 x1 x2 x3 x4 x5 x6).sim h r ((argsR x0 x1 x2 x3 x4 x5 x6).top h r k) < ⊤ := fun k => by
      have b := p.below h r (k.castLE (by omega))
      unfold Args.top
      exact b
    by_cases hm : ∃ k, m = (argsR x0 x1 x2 x3 x4 x5 x6).top h r k
    · obtain ⟨k, e⟩ := hm
      rw [e]
      exact up k
    · exact ((p.top h r).rest m fun k e => hm ⟨k, e⟩).trans (up 31)

end Pre

end Cert.Proof

end
-- ==== Proof.Algebraic.lean ====
/-
  Over the extended reals the kernel and the reference compute the same result.

  Both results are `Args.out`, entry by entry, of the same arguments and the same retrieved rows: the kernel's by
  `kernel_entry`, which asks that the rows are the 32 greatest of each row of similarities, and the reference's by `ref_out`.
-/
module

public import proofs.«01_k».proof.Defs
public import proofs.«01_k».proof.Proof.Whole
public import proofs.«01_k».proof.Proof.PreValue
public import proofs.«01_k».proof.Proof.Run
public import proofs.«01_k».proof.Proof.Gen.ReferenceIdeal.Run

@[expose] public section

set_option maxRecDepth 16384

noncomputable section

namespace Cert.Proof

open Idealize.ShloMosaic Idealize.SL.Sem Idealize.ShloMosaic.TcCoe

/-- The two results agree when the precondition holds of the arguments. -/
theorem same_result (m : (ℓ : Loc Cert.KernelIdeal.nD Cert.KernelIdeal.τ Cert.KernelIdeal.sig) → Buf (Elt Ideal) ℓ)
    (c : Dev Cert.KernelIdeal.nD)
    (x0 : FVec Ideal Cert.ReferenceIdeal.S1x2048x1024 .f32) (x1 : FVec Ideal Cert.ReferenceIdeal.S1x8192x2x64 .f32)
    (x2 : FVec Ideal Cert.ReferenceIdeal.S1024x1024 .f32) (x3 : FVec Ideal Cert.ReferenceIdeal.S1024x128 .f32)
    (x4 : FVec Ideal Cert.ReferenceIdeal.S1024x1024 .f32) (x5 : FVec Ideal Cert.ReferenceIdeal.S16x1x1 .f32)
    (x6 : FVec Ideal Cert.ReferenceIdeal.S1 .f32) [Cert.Pre_scores_distinct.Facts] (p : PreHolds x0 x1 x2 x3 x4 x5 x6)
    (e : argsK m c = argsR x0 x1 x2 x3 x4 x5 x6) {y0 y1 y2 y3 y4 y5 y6} (e0 : y0 = x0) (e1 : y1 = x1) (e2 : y2 = x2) (e3 : y3 = x3)
    (e4 : y4 = x4) (e5 : y5 = x5) (e6 : y6 = x6) :
    Cert.ReferenceIdeal.Read.val_main_v60 (F := Ideal) y0 y1 y2 y3 y4 y5 y6
      = Cert.KernelIdeal.Gen.V8 m (outs m) c Cert.KernelIdeal.main_v18 := by
  subst e0 e1 e2 e3 e4 e5 e6
  have k := kernel_entry m c (e ▸ p.tame) (argsR y0 y1 y2 y3 y4 y5 y6).top (fun h r => by rw [e]; exact p.top h r)
  rw [e] at k
  funext i
  have hi : i = ix3 0 (i 1) (i 2) := by
    funext a
    match a with
    | ⟨0, _⟩ => exact Subsingleton.elim (α := Fin 1) _ _
    | ⟨1, _⟩ => rfl
    | ⟨2, _⟩ => rfl
  rw [hi]
  exact (ref_out y0 y1 y2 y3 y4 y5 y6 (i 1) (i 2)).trans (k (i 1) (i 2)).symm

/-- The kernel and the reference, over extended reals, end with equal results wherever the precondition holds. -/
theorem algebraic : Cert.algebraic_KernelIdeal_ReferenceIdeal_pre_scores_distinct (hPre_scores_distinct := preFacts) := by
  intro m g m' g' hp hargs
  refine ⟨fun c => Cert.KernelIdeal.Gen.V8 m (outs m) c Cert.KernelIdeal.main_v18,
    (θ_run Cert.KernelIdeal.defs _ _).mono (fun _ h => h.1) (run_main (F := Ideal) m g),
    (θ_run Cert.ReferenceIdeal.defs _ _).mono (fun _ h c => ⟨(h c).1.trans ?_, (h c).2⟩)
      (Cert.ReferenceIdeal.Value.run (F := Ideal) m' g')⟩
  obtain ⟨a0, a1, a2, a3, a4, a5, a6⟩ := hargs c
  obtain ⟨p0, p1, p2⟩ := hp c
  refine (Cert.ReferenceIdeal.Read.val_main_v60_eq (StableHlo.launchContents m' c)).trans ?_
  exact @same_result m c _ _ _ _ _ _ _ preFacts (@PreHolds.mk _ _ _ _ _ _ _ preFacts p0 p1 p2) rfl
    _ _ _ _ _ _ _ a0 a1 a2 a3 a4 a5 a6

end Cert.Proof

end
-- ==== Proof.lean ====
/-
  Memorizing attention: the proof that the claims of the statement hold.
-/
module

public import proofs.«01_k».proof.Proof.Frames
public import proofs.«01_k».proof.Proof.Algebraic
public import proofs.«01_k».proof.Proof.Gen.KernelIdeal
public import proofs.«01_k».proof.Proof.Gen.ReferenceIdeal

@[expose] public section

noncomputable section

namespace Cert.Proof

/-- Every claim of the certificate. -/
theorem claim : Cert.Claim :=
  ⟨Cert.Kernel.Gen.facts, Cert.KernelIdeal.Gen.facts, Cert.ReferenceIdeal.Gen.facts, preFacts,
    frame_kernel, frame_kernelIdeal, fun m g _ => frame_kernelIdeal m g trivial,
    frame_referenceIdeal, fun m g _ => frame_referenceIdeal m g trivial, trivial, algebraic⟩

end Cert.Proof

end
